-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_c [hPre_finite_c : Cert.Pre_finite_c.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_c.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_c [hPre_finite_c : Cert.Pre_finite_c.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_c.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel14Ideal_pre_finite_c [hKernel14Ideal : Cert.Kernel14Ideal.Facts] [hPre_finite_c : Cert.Pre_finite_c.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_c m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_finite_c [hReference14Ideal : Cert.Reference14Ideal.Facts] [hPre_finite_c : Cert.Pre_finite_c.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_c m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v40) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v20) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal_pre_finite_c [hKernel14Ideal : Cert.Kernel14Ideal.Facts] [hReference14Ideal : Cert.Reference14Ideal.Facts] [hPre_finite_c : Cert.Pre_finite_c.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_c m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite_c : Cert.Pre_finite_c.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_c (hKernel14Ideal := hKernel14Ideal) (hPre_finite_c := hPre_finite_c)
    ∧ quiescent_Reference14Ideal (hReference14Ideal := hReference14Ideal)
    ∧ quiescent_Reference14Ideal_pre_finite_c (hReference14Ideal := hReference14Ideal) (hPre_finite_c := hPre_finite_c)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_c (hKernel14Ideal := hKernel14Ideal) (hReference14Ideal := hReference14Ideal) (hPre_finite_c := hPre_finite_c)
-- ==== Pre_finite.lean ====
abbrev S4x4096x8x96 : Shape := ⟨4, ![4, 4096, 8, 96]⟩
abbrev S4x4096x8x128 : Shape := ⟨4, ![4, 4096, 8, 128]⟩
abbrev S4x4096x32 : Shape := ⟨3, ![4, 4096, 32]⟩
abbrev S_ : Shape := ⟨0, ![]⟩

class Facts : Prop where
  bcast_S_S4x4096x8x96 : S_.BroadcastsInDim S4x4096x8x96 (![] : Fin 0 → Fin S4x4096x8x96.rank)
  reducesTo_S4x4096x8x96_S_d0_1_2_3 : S4x4096x8x96.ReducesTo [0, 1, 2, 3] S_
  h_S_ : 0 < S_.numel
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  bcast_S_S4x4096x32 : S_.BroadcastsInDim S4x4096x32 (![] : Fin 0 → Fin S4x4096x32.rank)
  reducesTo_S4x4096x32_S_d0_1_2 : S4x4096x32.ReducesTo [0, 1, 2] S_

variable [Facts]

def fn {F : FTy → Type} [FloatOps F] (main_arg0 : FVec F S4x4096x8x96 .f32) (main_arg1 : FVec F S4x4096x8x128 .f32) (main_arg2 : FVec F S4x4096x32 .f32) : IVec S_ 1 :=
  let main_v0 : FVec F S4x4096x8x96 .f32 := Host.absf main_arg0
  let main_cst : FVec F S_ .f32 := constant S_ .f32 0x7F800000#32
  let main_v1 : FVec F S4x4096x8x96 .f32 := broadcastInDim S4x4096x8x96 ![] bcast_S_S4x4096x8x96 main_cst
  let main_v2 : IVec S4x4096x8x96 1 := cmpf .olt main_v0 main_v1
  let main_c : IVec S_ 1 := constantI S_ 1 1#1
  let main_v3 : IVec S_ 1 := (fun x v => Host.reduce IntOp.andi x v reducesTo_S4x4096x8x96_S_d0_1_2_3 h_S_) main_v2 main_c
  let main_v4 : FVec F S4x4096x8x128 .f32 := Host.absf main_arg1
  let main_cst_0 : FVec F S_ .f32 := constant S_ .f32 0x7F800000#32
  let main_v5 : FVec F S4x4096x8x128 .f32 := broadcastInDim S4x4096x8x128 ![] bcast_S_S4x4096x8x128 main_cst_0
  let main_v6 : IVec S4x4096x8x128 1 := cmpf .olt main_v4 main_v5
  let main_c_1 : IVec S_ 1 := constantI S_ 1 1#1
  let main_v7 : IVec S_ 1 := (fun x v => Host.reduce IntOp.andi x v reducesTo_S4x4096x8x128_S_d0_1_2_3 h_S_) main_v6 main_c_1
  let main_v8 : IVec S_ 1 := andi main_v3 main_v7
  let main_v9 : FVec F S4x4096x32 .f32 := Host.absf main_arg2
  let main_cst_2 : FVec F S_ .f32 := constant S_ .f32 0x7F800000#32
  let main_v10 : FVec F S4x4096x32 .f32 := broadcastInDim S4x4096x32 ![] bcast_S_S4x4096x32 main_cst_2
  let main_v11 : IVec S4x4096x32 1 := cmpf .olt main_v9 main_v10
  let main_c_3 : IVec S_ 1 := constantI S_ 1 1#1
  let main_v12 : IVec S_ 1 := (fun x v => Host.reduce IntOp.andi x v reducesTo_S4x4096x32_S_d0_1_2 h_S_) main_v11 main_c_3
  let main_v13 : IVec S_ 1 := andi main_v8 main_v12
  main_v13
-- ==== Pre_finite_c.lean ====
abbrev S4x2048 : Shape := ⟨2, ![4, 2048]⟩
abbrev S2x3x2048x6144 : Shape := ⟨4, ![2, 3, 2048, 6144]⟩
abbrev S2x3x6144 : Shape := ⟨3, ![2, 3, 6144]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : FVec F S4x2048 .f32) (main_arg1 : FVec F S2x3x2048x6144 .f32) (main_arg2 : FVec F S2x3x6144 .f32) : IVec S_ 1 :=
  let main_v0 : FVec F S4x2048 .f32 := Host.absf main_arg0
  let main_cst : FVec F S_ .f32 := constant S_ .f32 0x7F800000#32
  let main_v1 : FVec F S4x2048 .f32 := broadcastInDim S4x2048 ![] bcast_S_S4x2048 main_cst
  let main_v2 : IVec S4x2048 1 := cmpf .olt main_v0 main_v1
  let main_c : IVec S_ 1 := constantI S_ 1 1#1
  let main_v3 : IVec S_ 1 := (fun x v => Host.reduce IntOp.andi x v reducesTo_S4x2048_S_d0_1 h_S_) main_v2 main_c
  main_v3
-- ==== Kernel.lean ====
abbrev S4x4096x8x96 : Shape := ⟨4, ![4, 4096, 8, 96]⟩
abbrev S4x4096x8x128 : Shape := ⟨4, ![4, 4096, 8, 128]⟩
abbrev S4x4096x32 : Shape := ⟨3, ![4, 4096, 32]⟩
abbrev S_ : Shape := ⟨0, ![]⟩
abbrev S4x4096x8x32 : Shape := ⟨4, ![4, 4096, 8, 32]⟩
abbrev S4x8x512x8x128 : Shape := ⟨5, ![4, 8, 512, 8, 128]⟩
abbrev S4x8x8x128x512 : Shape := ⟨5, ![4, 8, 8, 128, 512]⟩
abbrev S4x4096x8x64 : Shape := ⟨4, ![4, 4096, 8, 64]⟩
abbrev S4x4096x1x32 : Shape := ⟨4, ![4, 4096, 1, 32]⟩
abbrev S4x8x4096x128 : Shape := ⟨4, ![4, 8, 4096, 128]⟩
abbrev S4x8x512x8x64 : Shape := ⟨5, ![4, 8, 512, 8, 64]⟩
abbrev S4x8x8x64x512 : Shape := ⟨5, ![4, 8, 8, 64, 512]⟩
abbrev S1x1x1x128x512 : Shape := ⟨5, ![1, 1, 1, 128, 512]⟩
abbrev S1x1x4096x128 : Shape := ⟨4, ![1, 1, 4096, 128]⟩
abbrev S1x1x8x64x512 : Shape := ⟨5, ![1, 1, 8, 64, 512]⟩
abbrev S1x1x1x64x512 : Shape := ⟨5, ![1, 1, 1, 64, 512]⟩
abbrev S1x512 : Shape := ⟨2, ![1, 512]⟩
abbrev S64x512 : Shape := ⟨2, ![64, 512]⟩
abbrev S128x512 : Shape := ⟨2, ![128, 512]⟩
abbrev S512x512 : Shape := ⟨2, ![512, 512]⟩
abbrev S1x1x512x128 : Shape := ⟨4, ![1, 1, 512, 128]⟩
abbrev S512x128 : Shape := ⟨2, ![512, 128]⟩
abbrev S512 : Shape := ⟨1, ![512]⟩
abbrev S1024x512 : Shape := ⟨2, ![1024, 512]⟩
abbrev S64x1024 : Shape := ⟨2, ![64, 1024]⟩

abbrev nBuf : Space → Nat
  | .hbm => 25
  | .vmem => 11
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x128, .f32⟩
  | .hbm, ⟨2, _⟩ => ⟨S4x4096x32, .f32⟩
  | .hbm, ⟨3, _⟩ => ⟨S_, .f32⟩
  | .hbm, ⟨4, _⟩ => ⟨S4x4096x8x32, .f32⟩
  | .hbm, ⟨5, _⟩ => ⟨S4x4096x8x128, .f32⟩
  | .hbm, ⟨6, _⟩ => ⟨S_, .f32⟩
  | .hbm, ⟨7, _⟩ => ⟨S4x4096x8x128, .f32⟩
  | .hbm, ⟨8, _⟩ => ⟨S4x4096x8x128, .f32⟩
  | .hbm, ⟨9, _⟩ => ⟨S4x4096x8x128, .bf16⟩
  | .hbm, ⟨10, _⟩ => ⟨S4x8x512x8x128, .bf16⟩
  | .hbm, ⟨11, _⟩ => ⟨S4x8x8x128x512, .bf16⟩
  | .hbm, ⟨12, _⟩ => ⟨S4x4096x8x64, .f32⟩
  | .hbm, ⟨13, _⟩ => ⟨S4x4096x1x32, .f32⟩
  | .hbm, ⟨14, _⟩ => ⟨S4x4096x8x32, .f32⟩
  | .hbm, ⟨15, _⟩ => ⟨S_, .f32⟩
  | .hbm, ⟨16, _⟩ => ⟨S4x4096x8x32, .f32⟩
  | .hbm, ⟨17, _⟩ => ⟨S4x4096x8x128, .f32⟩
  | .hbm, ⟨18, _⟩ => ⟨S4x4096x8x128, .bf16⟩
  | .hbm, ⟨19, _⟩ => ⟨S4x8x4096x128, .bf16⟩
  | .hbm, ⟨20, _⟩ => ⟨S4x4096x8x64, .f32⟩
  | .hbm, ⟨21, _⟩ => ⟨S4x4096x8x64, .bf16⟩
  | .hbm, ⟨22, _⟩ => ⟨S4x8x512x8x64, .bf16⟩
  | .hbm, ⟨23, _⟩ => ⟨S4x8x8x64x512, .bf16⟩
  | .hbm, ⟨24, _⟩ => ⟨S4x8x8x64x512, .bf16⟩
  | .local _ .vmem, ⟨0, _⟩ => ⟨S1x1x1x128x512, .bf16⟩
  | .local _ .vmem, ⟨1, _⟩ => ⟨S1x1x1x128x512, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x8x64x512, .bf16⟩
  | .local _ .vmem, ⟨5, _⟩ => ⟨S1x1x8x64x512, .bf16⟩
  | .local _ .vmem, ⟨6, _⟩ => ⟨S1x1x1x64x512, .bf16⟩
  | .local _ .vmem, ⟨7, _⟩ => ⟨S1x1x1x64x512, .bf16⟩
  | .local _ .vmem, ⟨8, _⟩ => ⟨S1x512, .f32⟩
  | .local _ .vmem, ⟨9, _⟩ => ⟨S1x512, .f32⟩
  | .local _ .vmem, ⟨10, _⟩ => ⟨S64x512, .f32⟩
  | _, _ => ⟨S4x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c512_i32 : BitVec 32 := 512#32
  let v7 : BitVec 32 := Scalar.muli arg2 c512_i32
  v7
def k0_off1 (i : grid0.Coords) : Fin 4 → Nat :=
  let c0_4 : Index := 0#32
  let c0_5 : Index := 0#32
  let arg2 : BitVec 32 := BitVec.ofNat 32 (i 2).val
  let c512_i32 : BitVec 32 := 512#32
  let v7 : BitVec 32 := Scalar.muli arg2 c512_i32
  let v8 : BitVec 32 := v7
  let v9 : Index := Scalar.indexCast v8
  let c0_6 : Index := 0#32
  ![0, 0, v9.toNat, 0]
def k0_off2 (i : grid0.Coords) : Fin 5 → Nat :=
  let c0_8 : Index := 0#32
  let c0_9 : Index := 0#32
  let arg2 : BitVec 32 := BitVec.ofNat 32 (i 2).val
  let v15 : Index := Scalar.indexCast arg2
  let c0_10 : Index := 0#32
  let c0_11 : Index := 0#32
  ![0, 0, v15.toNat, 0, 0]
@[reducible] def k0_t1_loop (i : grid0.Coords) : Scf.Loop 32 :=
  let c0_i32_21 : BitVec 32 := 0#32
  let arg2 : BitVec 32 := BitVec.ofNat 32 (i 2).val
  let c1_i32 : BitVec 32 := 1#32
  let v36 : BitVec 32 := Scalar.shrsi arg2 c1_i32
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_23 : BitVec 32 := 1#32
  ⟨c0_i32_21, v41, c1_i32_23⟩
def k0_mult2 (i : grid0.Coords) (k0_t1 : Fin (k0_t1_loop i).trips) : BitVec 32 :=
  let c2_i32 : BitVec 32 := 2#32
  let c0_i32_21 : BitVec 32 := 0#32
  let c1_i32_23 : BitVec 32 := 1#32
  let arg10 : BitVec 32 := Scf.iv c0_i32_21 c1_i32_23 k0_t1
  let v56 : BitVec 32 := Scalar.muli c2_i32 arg10
  let c512_i32_40 : BitVec 32 := 512#32
  let v59 : BitVec 32 := Scalar.muli v56 c512_i32_40
  v59
def k0_off3 (i : grid0.Coords) (k0_t1 : Fin (k0_t1_loop i).trips) : Fin 4 → Nat :=
  let c0_41 : Index := 0#32
  let c0_42 : Index := 0#32
  let c2_i32 : BitVec 32 := 2#32
  let c0_i32_21 : BitVec 32 := 0#32
  let c1_i32_23 : BitVec 32 := 1#32
  let arg10 : BitVec 32 := Scf.iv c0_i32_21 c1_i32_23 k0_t1
  let v56 : BitVec 32 := Scalar.muli c2_i32 arg10
  let c512_i32_40 : BitVec 32 := 512#32
  let v59 : BitVec 32 := Scalar.muli v56 c512_i32_40
  let v60 : BitVec 32 := v59
  let v61 : Index := Scalar.indexCast v60
  let c0_43 : Index := 0#32
  ![0, 0, v61.toNat, 0]
def k0_off4 (i : grid0.Coords) (k0_t1 : Fin (k0_t1_loop i).trips) : Fin 5 → Nat :=
  let c0_45 : Index := 0#32
  let c0_46 : Index := 0#32
  let c2_i32 : BitVec 32 := 2#32
  let c0_i32_21 : BitVec 32 := 0#32
  let c1_i32_23 : BitVec 32 := 1#32
  let arg10 : BitVec 32 := Scf.iv c0_i32_21 c1_i32_23 k0_t1
  let v56 : BitVec 32 := Scalar.muli c2_i32 arg10
  let v65 : Index := Scalar.indexCast v56
  let c0_47 : Index := 0#32
  let c0_48 : Index := 0#32
  ![0, 0, v65.toNat, 0, 0]
def k0_mult3 (i : grid0.Coords) (k0_t1 : Fin (k0_t1_loop i).trips) : BitVec 32 :=
  let c2_i32_38 : BitVec 32 := 2#32
  let c0_i32_21 : BitVec 32 := 0#32
  let c1_i32_23 : BitVec 32 := 1#32
  let arg10 : BitVec 32 := Scf.iv c0_i32_21 c1_i32_23 k0_t1
  let v57 : BitVec 32 := Scalar.muli c2_i32_38 arg10
  let c1_i32_39 : BitVec 32 := 1#32
  let v58 : BitVec 32 := Scalar.addi v57 c1_i32_39
  let c512_i32_49 : BitVec 32 := 512#32
  let v68 : BitVec 32 := Scalar.muli v58 c512_i32_49
  v68
def k0_off5 (i : grid0.Coords) (k0_t1 : Fin (k0_t1_loop i).trips) : Fin 4 → Nat :=
  let c0_50 : Index := 0#32
  let c0_51 : Index := 0#32
  let c2_i32_38 : BitVec 32 := 2#32
  let c0_i32_21 : BitVec 32 := 0#32
  let c1_i32_23 : BitVec 32 := 1#32
  let arg10 : BitVec 32 := Scf.iv c0_i32_21 c1_i32_23 k0_t1
  let v57 : BitVec 32 := Scalar.muli c2_i32_38 arg10
  let c1_i32_39 : BitVec 32 := 1#32
  let v58 : BitVec 32 := Scalar.addi v57 c1_i32_39
  let c512_i32_49 : BitVec 32 := 512#32
  let v68 : BitVec 32 := Scalar.muli v58 c512_i32_49
  let v69 : BitVec 32 := v68
  let v70 : Index := Scalar.indexCast v69
  let c0_52 : Index := 0#32
  ![0, 0, v70.toNat, 0]
def k0_off6 (i : grid0.Coords) (k0_t1 : Fin (k0_t1_loop i).trips) : Fin 5 → Nat :=
  let c0_54 : Index := 0#32
  let c0_55 : Index := 0#32
  let c2_i32_38 : BitVec 32 := 2#32
  let c0_i32_21 : BitVec 32 := 0#32
  let c1_i32_23 : BitVec 32 := 1#32
  let arg10 : BitVec 32 := Scf.iv c0_i32_21 c1_i32_23 k0_t1
  let v57 : BitVec 32 := Scalar.muli c2_i32_38 arg10
  let c1_i32_39 : BitVec 32 := 1#32
  let v58 : BitVec 32 := Scalar.addi v57 c1_i32_39
  let v74 : Index := Scalar.indexCast v58
  let c0_56 : Index := 0#32
  let c0_57 : Index := 0#32
  ![0, 0, v74.toNat, 0, 0]
@[reducible] def k0_t2_loop (i : grid0.Coords) : Scf.Loop 32 :=
  let c0_i32_21 : BitVec 32 := 0#32
  let arg2 : BitVec 32 := BitVec.ofNat 32 (i 2).val
  let c1_i32 : BitVec 32 := 1#32
  let v36 : BitVec 32 := Scalar.shrsi arg2 c1_i32
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let v38 : BitVec 32 := Scalar.addi c0_i32_21 v37
  let c1_i32_24 : BitVec 32 := 1#32
  ⟨v41, v38, c1_i32_24⟩
def k0_mult4 (i : grid0.Coords) (k0_t2 : Fin (k0_t2_loop i).trips) : BitVec 32 :=
  let c2_i32 : BitVec 32 := 2#32
  let c0_i32_21 : BitVec 32 := 0#32
  let arg2 : BitVec 32 := BitVec.ofNat 32 (i 2).val
  let c1_i32 : BitVec 32 := 1#32
  let v36 : BitVec 32 := Scalar.shrsi arg2 c1_i32
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg10 : BitVec 32 := Scf.iv v41 c1_i32_24 k0_t2
  let v56 : BitVec 32 := Scalar.muli c2_i32 arg10
  let c512_i32_40 : BitVec 32 := 512#32
  let v59 : BitVec 32 := Scalar.muli v56 c512_i32_40
  v59
def k0_off7 (i : grid0.Coords) (k0_t2 : Fin (k0_t2_loop i).trips) : Fin 4 → Nat :=
  let c0_41 : Index := 0#32
  let c0_42 : Index := 0#32
  let c2_i32 : BitVec 32 := 2#32
  let c0_i32_21 : BitVec 32 := 0#32
  let arg2 : BitVec 32 := BitVec.ofNat 32 (i 2).val
  let c1_i32 : BitVec 32 := 1#32
  let v36 : BitVec 32 := Scalar.shrsi arg2 c1_i32
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg10 : BitVec 32 := Scf.iv v41 c1_i32_24 k0_t2
  let v56 : BitVec 32 := Scalar.muli c2_i32 arg10
  let c512_i32_40 : BitVec 32 := 512#32
  let v59 : BitVec 32 := Scalar.muli v56 c512_i32_40
  let v60 : BitVec 32 := v59
  let v61 : Index := Scalar.indexCast v60
  let c0_43 : Index := 0#32
  ![0, 0, v61.toNat, 0]
def k0_off8 (i : grid0.Coords) (k0_t2 : Fin (k0_t2_loop i).trips) : Fin 5 → Nat :=
  let c0_45 : Index := 0#32
  let c0_46 : Index := 0#32
  let c2_i32 : BitVec 32 := 2#32
  let c0_i32_21 : BitVec 32 := 0#32
  let arg2 : BitVec 32 := BitVec.ofNat 32 (i 2).val
  let c1_i32 : BitVec 32 := 1#32
  let v36 : BitVec 32 := Scalar.shrsi arg2 c1_i32
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg10 : BitVec 32 := Scf.iv v41 c1_i32_24 k0_t2
  let v56 : BitVec 32 := Scalar.muli c2_i32 arg10
  let v65 : Index := Scalar.indexCast v56
  let c0_47 : Index := 0#32
  let c0_48 : Index := 0#32
  ![0, 0, v65.toNat, 0, 0]
def k0_mult5 (i : grid0.Coords) (k0_t2 : Fin (k0_t2_loop i).trips) : BitVec 32 :=
  let c2_i32_38 : BitVec 32 := 2#32
  let c0_i32_21 : BitVec 32 := 0#32
  let arg2 : BitVec 32 := BitVec.ofNat 32 (i 2).val
  let c1_i32 : BitVec 32 := 1#32
  let v36 : BitVec 32 := Scalar.shrsi arg2 c1_i32
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg10 : BitVec 32 := Scf.iv v41 c1_i32_24 k0_t2
  let v57 : BitVec 32 := Scalar.muli c2_i32_38 arg10
  let c1_i32_39 : BitVec 32 := 1#32
  let v58 : BitVec 32 := Scalar.addi v57 c1_i32_39
  let c512_i32_49 : BitVec 32 := 512#32
  let v68 : BitVec 32 := Scalar.muli v58 c512_i32_49
  v68
def k0_off9 (i : grid0.Coords) (k0_t2 : Fin (k0_t2_loop i).trips) : Fin 4 → Nat :=
  let c0_50 : Index := 0#32
  let c0_51 : Index := 0#32
  let c2_i32_38 : BitVec 32 := 2#32
  let c0_i32_21 : BitVec 32 := 0#32
  let arg2 : BitVec 32 := BitVec.ofNat 32 (i 2).val
  let c1_i32 : BitVec 32 := 1#32
  let v36 : BitVec 32 := Scalar.shrsi arg2 c1_i32
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg10 : BitVec 32 := Scf.iv v41 c1_i32_24 k0_t2
  let v57 : BitVec 32 := Scalar.muli c2_i32_38 arg10
  let c1_i32_39 : BitVec 32 := 1#32
  let v58 : BitVec 32 := Scalar.addi v57 c1_i32_39
  let c512_i32_49 : BitVec 32 := 512#32
  let v68 : BitVec 32 := Scalar.muli v58 c512_i32_49
  let v69 : BitVec 32 := v68
  let v70 : Index := Scalar.indexCast v69
  let c0_52 : Index := 0#32
  ![0, 0, v70.toNat, 0]
def k0_off10 (i : grid0.Coords) (k0_t2 : Fin (k0_t2_loop i).trips) : Fin 5 → Nat :=
  let c0_54 : Index := 0#32
  let c0_55 : Index := 0#32
  let c2_i32_38 : BitVec 32 := 2#32
  let c0_i32_21 : BitVec 32 := 0#32
  let arg2 : BitVec 32 := BitVec.ofNat 32 (i 2).val
  let c1_i32 : BitVec 32 := 1#32
  let v36 : BitVec 32 := Scalar.shrsi arg2 c1_i32
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg10 : BitVec 32 := Scf.iv v41 c1_i32_24 k0_t2
  let v57 : BitVec 32 := Scalar.muli c2_i32_38 arg10
  let c1_i32_39 : BitVec 32 := 1#32
  let v58 : BitVec 32 := Scalar.addi v57 c1_i32_39
  let v74 : Index := Scalar.indexCast v58
  let c0_56 : Index := 0#32
  let c0_57 : Index := 0#32
  ![0, 0, v74.toNat, 0, 0]
def k0_cond1 (i : grid0.Coords) : BitVec 1 :=
  let arg2 : BitVec 32 := BitVec.ofNat 32 (i 2).val
  let c1_i32_25 : BitVec 32 := 1#32
  let v42 : BitVec 32 := Scalar.andi arg2 c1_i32_25
  let c1_i32_26 : BitVec 32 := 1#32
  let v43 : BitVec 1 := Scalar.cmpi .eq v42 c1_i32_26
  let v44 : BitVec 32 := Scalar.extui v43
  let c0_i32_27 : BitVec 32 := 0#32
  let v45 : BitVec 1 := Scalar.cmpi .ne v44 c0_i32_27
  v45

def k0_mult6 (i : grid0.Coords) : BitVec 32 :=
  let arg2 : BitVec 32 := BitVec.ofNat 32 (i 2).val
  let c1_i32_38 : BitVec 32 := 1#32
  let v56 : BitVec 32 := Scalar.subi arg2 c1_i32_38
  let c512_i32_39 : BitVec 32 := 512#32
  let v57 : BitVec 32 := Scalar.muli v56 c512_i32_39
  v57
def k0_off11 (i : grid0.Coords) : Fin 4 → Nat :=
  let c0_40 : Index := 0#32
  let c0_41 : Index := 0#32
  let arg2 : BitVec 32 := BitVec.ofNat 32 (i 2).val
  let c1_i32_38 : BitVec 32 := 1#32
  let v56 : BitVec 32 := Scalar.subi arg2 c1_i32_38
  let c512_i32_39 : BitVec 32 := 512#32
  let v57 : BitVec 32 := Scalar.muli v56 c512_i32_39
  let v58 : BitVec 32 := v57
  let v59 : Index := Scalar.indexCast v58
  let c0_42 : Index := 0#32
  ![0, 0, v59.toNat, 0]
def k0_off12 (i : grid0.Coords) : Fin 5 → Nat :=
  let c0_44 : Index := 0#32
  let c0_45 : Index := 0#32
  let arg2 : BitVec 32 := BitVec.ofNat 32 (i 2).val
  let c1_i32_38 : BitVec 32 := 1#32
  let v56 : BitVec 32 := Scalar.subi arg2 c1_i32_38
  let v63 : Index := Scalar.indexCast v56
  let c0_46 : Index := 0#32
  let c0_47 : Index := 0#32
  ![0, 0, v63.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x8x96 : Shape := ⟨4, ![4, 4096, 8, 96]⟩
abbrev S4x4096x8x128 : Shape := ⟨4, ![4, 4096, 8, 128]⟩
abbrev S4x4096x32 : Shape := ⟨3, ![4, 4096, 32]⟩
abbrev S4x4096x8x64 : Shape := ⟨4, ![4, 4096, 8, 64]⟩
abbrev S4x4096x1x32 : Shape := ⟨4, ![4, 4096, 1, 32]⟩
abbrev S4x4096x8x32 : Shape := ⟨4, ![4, 4096, 8, 32]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x8x4096x64 : Shape := ⟨4, ![4, 8, 4096, 64]⟩
abbrev S4x8x8x512x64 : Shape := ⟨5, ![4, 8, 8, 512, 64]⟩
abbrev S4x8x8x64x512 : Shape := ⟨5, ![4, 8, 8, 64, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x128, .f32⟩
  | .hbm, ⟨2, _⟩ => ⟨S4x4096x32, .f32⟩
  | .hbm, ⟨3, _⟩ => ⟨S4x4096x8x64, .f32⟩
  | .hbm, ⟨4, _⟩ => ⟨S4x4096x1x32, .f32⟩
  | .hbm, ⟨5, _⟩ => ⟨S4x4096x8x32, .f32⟩
  | .hbm, ⟨6, _⟩ => ⟨S4x4096x8x96, .f32⟩
  | .hbm, ⟨7, _⟩ => ⟨S4x4096x8x64, .f32⟩
  | .hbm, ⟨8, _⟩ => ⟨S4x8x4096x4096, .f32⟩
  | .hbm, ⟨9, _⟩ => ⟨S_, .f32⟩
  | .hbm, ⟨10, _⟩ => ⟨S4x8x4096x4096, .f32⟩
  | .hbm, ⟨11, _⟩ => ⟨S4x8x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S4x8x4096x4096, .i1⟩
  | .hbm, ⟨21, _⟩ => ⟨S4x8x4096x4096, .f32⟩
  | .hbm, ⟨22, _⟩ => ⟨S4x8x4096x4096, .f32⟩
  | .hbm, ⟨23, _⟩ => ⟨S_, .f32⟩
  | .hbm, ⟨24, _⟩ => ⟨S4x8x4096, .f32⟩
  | .hbm, ⟨25, _⟩ => ⟨S_, .f32⟩
  | .hbm, ⟨26, _⟩ => ⟨S4x8x4096, .f32⟩
  | .hbm, ⟨27, _⟩ => ⟨S4x8x4096, .f32⟩
  | .hbm, ⟨28, _⟩ => ⟨S4x8x4096x1, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S_, .f32⟩
  | .hbm, ⟨33, _⟩ => ⟨S4x8x4096, .f32⟩
  | .hbm, ⟨34, _⟩ => ⟨S4x8x4096x1, .f32⟩
  | .hbm, ⟨35, _⟩ => ⟨S4x8x4096x4096, .f32⟩
  | .hbm, ⟨36, _⟩ => ⟨S4x8x4096x4096, .f32⟩
  | .hbm, ⟨37, _⟩ => ⟨S4x8x4096x64, .f32⟩
  | .hbm, ⟨38, _⟩ => ⟨S4x8x8x512x64, .f32⟩
  | .hbm, ⟨39, _⟩ => ⟨S4x8x8x64x512, .f32⟩
  | .hbm, ⟨40, _⟩ => ⟨S4x8x8x64x512, .bf16⟩
  | _, _ => ⟨S4x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048x5632 : Shape := ⟨2, ![2048, 5632]⟩
abbrev S16384x2048 : Shape := ⟨2, ![16384, 2048]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x5632, .f32⟩
  | .hbm, ⟨2, _⟩ => ⟨S2048x5632, .f32⟩
  | .hbm, ⟨3, _⟩ => ⟨S16384x2048, .f32⟩
  | .hbm, ⟨4, _⟩ => ⟨S16384x2048, .bf16⟩
  | .hbm, ⟨5, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x2048 : Shape := ⟨3, ![4, 4096, 2048]⟩
abbrev S2048x5632 : Shape := ⟨2, ![2048, 5632]⟩
abbrev S4x4096x5632 : Shape := ⟨3, ![4, 4096, 5632]⟩
abbrev S_ : Shape := ⟨0, ![]⟩
abbrev S16384x5632 : Shape := ⟨2, ![16384, 5632]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x5632, .f32⟩
  | .hbm, ⟨2, _⟩ => ⟨S2048x5632, .f32⟩
  | .hbm, ⟨3, _⟩ => ⟨S4x4096x5632, .f32⟩
  | .hbm, ⟨4, _⟩ => ⟨S4x4096x5632, .f32⟩
  | .hbm, ⟨5, _⟩ => ⟨S4x4096x5632, .f32⟩
  | .hbm, ⟨6, _⟩ => ⟨S_, .f32⟩
  | .hbm, ⟨7, _⟩ => ⟨S4x4096x5632, .f32⟩
  | .hbm, ⟨8, _⟩ => ⟨S4x4096x5632, .f32⟩
  | .hbm, ⟨9, _⟩ => ⟨S_, .f32⟩
  | .hbm, ⟨10, _⟩ => ⟨S4x4096x5632, .f32⟩
  | .hbm, ⟨11, _⟩ => ⟨S4x4096x5632, .f32⟩
  | .hbm, ⟨12, _⟩ => ⟨S4x4096x5632, .f32⟩
  | .hbm, ⟨13, _⟩ => ⟨S4x4096x5632, .f32⟩
  | .hbm, ⟨14, _⟩ => ⟨S4x4096x5632, .f32⟩
  | .hbm, ⟨15, _⟩ => ⟨S16384x5632, .f32⟩
  | .hbm, ⟨16, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel3.lean ====
abbrev S4x4096x5632 : Shape := ⟨3, ![4, 4096, 5632]⟩
abbrev S5632x2048 : Shape := ⟨2, ![5632, 2048]⟩
abbrev S4x4096x2048 : Shape := ⟨3, ![4, 4096, 2048]⟩
abbrev S2048 : Shape := ⟨1, ![2048]⟩
abbrev S4x1x2048 : Shape := ⟨3, ![4, 1, 2048]⟩
abbrev S16384x5632 : Shape := ⟨2, ![16384, 5632]⟩
abbrev S16384x2048 : Shape := ⟨2, ![16384, 2048]⟩
abbrev S1x2048 : Shape := ⟨2, ![1, 2048]⟩
abbrev S256x5632 : Shape := ⟨2, ![256, 5632]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 16
  | .vmem => 17
  | .smem => 0
  | _ => 0

abbrev bufTy : (tb : Table) → Fin (tcTables nBuf tb) → BufTy
  | .hbm, ⟨0, _⟩ => ⟨S4x4096x5632, .f32⟩
  | .hbm, ⟨1, _⟩ => ⟨S5632x2048, .f32⟩
  | .hbm, ⟨2, _⟩ => ⟨S4x4096x2048, .f32⟩
  | .hbm, ⟨3, _⟩ => ⟨S2048, .f32⟩
  | .hbm, ⟨4, _⟩ => ⟨S4x1x2048, .f32⟩
  | .hbm, ⟨5, _⟩ => ⟨S2048, .f32⟩
  | .hbm, ⟨6, _⟩ => ⟨S4x1x2048, .f32⟩
  | .hbm, ⟨7, _⟩ => ⟨S4x1x2048, .f32⟩
  | .hbm, ⟨8, _⟩ => ⟨S16384x5632, .f32⟩
  | .hbm, ⟨9, _⟩ => ⟨S16384x5632, .bf16⟩
  | .hbm, ⟨10, _⟩ => ⟨S16384x2048, .f32⟩
  | .hbm, ⟨11, _⟩ => ⟨S5632x2048, .bf16⟩
  | .hbm, ⟨12, _⟩ => ⟨S1x2048, .f32⟩
  | .hbm, ⟨13, _⟩ => ⟨S1x2048, .f32⟩
  | .hbm, ⟨14, _⟩ => ⟨S16384x2048, .f32⟩
  | .hbm, ⟨15, _⟩ => ⟨S16384x2048, .bf16⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4x4096x5632 : Shape := ⟨3, ![4, 4096, 5632]⟩
abbrev S5632x2048 : Shape := ⟨2, ![5632, 2048]⟩
abbrev S4x4096x2048 : Shape := ⟨3, ![4, 4096, 2048]⟩
abbrev S2048 : Shape := ⟨1, ![2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x5632, .f32⟩
  | .hbm, ⟨1, _⟩ => ⟨S5632x2048, .f32⟩
  | .hbm, ⟨2, _⟩ => ⟨S4x4096x2048, .f32⟩
  | .hbm, ⟨3, _⟩ => ⟨S2048, .f32⟩
  | .hbm, ⟨4, _⟩ => ⟨S4x1x2048, .f32⟩
  | .hbm, ⟨5, _⟩ => ⟨S2048, .f32⟩
  | .hbm, ⟨6, _⟩ => ⟨S4x1x2048, .f32⟩
  | .hbm, ⟨7, _⟩ => ⟨S4x1x2048, .f32⟩
  | .hbm, ⟨8, _⟩ => ⟨S4x4096x2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x1x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x2048, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | .hbm, ⟨47, _⟩ => ⟨S_, .f32⟩
  | .hbm, ⟨48, _⟩ => ⟨S4x1x2048, .f32⟩
  | .hbm, ⟨49, _⟩ => ⟨S4x1x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S16384x2048, .f32⟩
  | .hbm, ⟨55, _⟩ => ⟨S16384x2048, .f32⟩
  | .hbm, ⟨56, _⟩ => ⟨S16384x2048, .bf16⟩
  | _, _ => ⟨S4x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048x8192 : Shape := ⟨2, ![2048, 8192]⟩
abbrev S4x4096x512 : Shape := ⟨3, ![4, 4096, 512]⟩
abbrev S4x512x2048 : Shape := ⟨3, ![4, 512, 2048]⟩
abbrev S16384x2048 : Shape := ⟨2, ![16384, 2048]⟩
abbrev S16384x512 : Shape := ⟨2, ![16384, 512]⟩
abbrev S512x2048 : Shape := ⟨2, ![512, 2048]⟩
abbrev S2048x256 : Shape := ⟨2, ![2048, 256]⟩
abbrev S512x512 : Shape := ⟨2, ![512, 512]⟩
abbrev S4x512x256 : Shape := ⟨3, ![4, 512, 256]⟩
abbrev S512x256 : Shape := ⟨2, ![512, 256]⟩
abbrev S4x2048x256 : Shape := ⟨3, ![4, 2048, 256]⟩
abbrev S1x2048x256 : Shape := ⟨3, ![1, 2048, 256]⟩
abbrev S1x512x256 : Shape := ⟨3, ![1, 512, 256]⟩

abbrev nBuf : Space → Nat
  | .hbm => 18
  | .vmem => 24
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x512x2048, .f32⟩
  | .hbm, ⟨7, _⟩ => ⟨S16384x2048, .f32⟩
  | .hbm, ⟨8, _⟩ => ⟨S16384x2048, .bf16⟩
  | .hbm, ⟨9, _⟩ => ⟨S16384x512, .f32⟩
  | .hbm, ⟨10, _⟩ => ⟨S16384x512, .bf16⟩
  | .hbm, ⟨11, _⟩ => ⟨S16384x512, .f32⟩
  | .hbm, ⟨12, _⟩ => ⟨S16384x512, .bf16⟩
  | .hbm, ⟨13, _⟩ => ⟨S16384x512, .f32⟩
  | .hbm, ⟨14, _⟩ => ⟨S16384x512, .bf16⟩
  | .hbm, ⟨15, _⟩ => ⟨S16384x512, .f32⟩
  | .hbm, ⟨16, _⟩ => ⟨S16384x512, .bf16⟩
  | .hbm, ⟨17, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S4x512x256, .f32⟩
  | .local _ .vmem, ⟨19, _⟩ => ⟨S4x512x256, .f32⟩
  | .local _ .vmem, ⟨20, _⟩ => ⟨S512x256, .bf16⟩
  | .local _ .vmem, ⟨21, _⟩ => ⟨S512x256, .bf16⟩
  | .local _ .vmem, ⟨22, _⟩ => ⟨S4x2048x256, .bf16⟩
  | .local _ .vmem, ⟨23, _⟩ => ⟨S4x512x256, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S4x4096x2048 : Shape := ⟨3, ![4, 4096, 2048]⟩
abbrev S2048x8192 : Shape := ⟨2, ![2048, 8192]⟩
abbrev S4x4096x512 : Shape := ⟨3, ![4, 4096, 512]⟩
abbrev S4x512x2048 : Shape := ⟨3, ![4, 512, 2048]⟩
abbrev S4x4096x8192 : Shape := ⟨3, ![4, 4096, 8192]⟩
abbrev S4x4096x4x2048 : Shape := ⟨4, ![4, 4096, 4, 2048]⟩
abbrev S_ : Shape := ⟨0, ![]⟩
abbrev S4x4096x1x2048 : Shape := ⟨4, ![4, 4096, 1, 2048]⟩
abbrev S1x512x2048 : Shape := ⟨3, ![1, 512, 2048]⟩
abbrev S512x2048 : Shape := ⟨2, ![512, 2048]⟩
abbrev S16384x2048 : Shape := ⟨2, ![16384, 2048]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x512x2048, .f32⟩
  | .hbm, ⟨7, _⟩ => ⟨S4x4096x8192, .f32⟩
  | .hbm, ⟨8, _⟩ => ⟨S4x4096x4x2048, .f32⟩
  | .hbm, ⟨9, _⟩ => ⟨S4x4096x4x2048, .f32⟩
  | .hbm, ⟨10, _⟩ => ⟨S4x4096x4x2048, .f32⟩
  | .hbm, ⟨11, _⟩ => ⟨S_, .f32⟩
  | .hbm, ⟨12, _⟩ => ⟨S4x4096x4x2048, .f32⟩
  | .hbm, ⟨13, _⟩ => ⟨S4x4096x4x2048, .f32⟩
  | .hbm, ⟨14, _⟩ => ⟨S_, .f32⟩
  | .hbm, ⟨15, _⟩ => ⟨S4x4096x4x2048, .f32⟩
  | .hbm, ⟨16, _⟩ => ⟨S4x4096x4x2048, .f32⟩
  | .hbm, ⟨17, _⟩ => ⟨S4x4096x1x2048, .f32⟩
  | .hbm, ⟨18, _⟩ => ⟨S4x4096x2048, .f32⟩
  | .hbm, ⟨19, _⟩ => ⟨S1x512x2048, .f32⟩
  | .hbm, ⟨20, _⟩ => ⟨S512x2048, .f32⟩
  | .hbm, ⟨21, _⟩ => ⟨S4x4096x2048, .f32⟩
  | .hbm, ⟨22, _⟩ => ⟨S4x4096x2048, .f32⟩
  | .hbm, ⟨23, _⟩ => ⟨S4x4096x1x2048, .f32⟩
  | .hbm, ⟨24, _⟩ => ⟨S4x4096x2048, .f32⟩
  | .hbm, ⟨25, _⟩ => ⟨S1x512x2048, .f32⟩
  | .hbm, ⟨26, _⟩ => ⟨S512x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x1x2048, .f32⟩
  | .hbm, ⟨31, _⟩ => ⟨S4x4096x2048, .f32⟩
  | .hbm, ⟨32, _⟩ => ⟨S1x512x2048, .f32⟩
  | .hbm, ⟨33, _⟩ => ⟨S512x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x1x2048, .f32⟩
  | .hbm, ⟨38, _⟩ => ⟨S4x4096x2048, .f32⟩
  | .hbm, ⟨39, _⟩ => ⟨S1x512x2048, .f32⟩
  | .hbm, ⟨40, _⟩ => ⟨S512x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S16384x2048, .f32⟩
  | .hbm, ⟨45, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel5.lean ====
abbrev S4x4096x5632 : Shape := ⟨3, ![4, 4096, 5632]⟩
abbrev S5632x2048 : Shape := ⟨2, ![5632, 2048]⟩
abbrev S4x4096x2048 : Shape := ⟨3, ![4, 4096, 2048]⟩
abbrev S2048 : Shape := ⟨1, ![2048]⟩
abbrev S4x1x2048 : Shape := ⟨3, ![4, 1, 2048]⟩
abbrev S16384x5632 : Shape := ⟨2, ![16384, 5632]⟩
abbrev S16384x2048 : Shape := ⟨2, ![16384, 2048]⟩
abbrev S1x2048 : Shape := ⟨2, ![1, 2048]⟩
abbrev S256x5632 : Shape := ⟨2, ![256, 5632]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x5632, .f32⟩
  | .hbm, ⟨1, _⟩ => ⟨S5632x2048, .f32⟩
  | .hbm, ⟨2, _⟩ => ⟨S4x4096x2048, .f32⟩
  | .hbm, ⟨3, _⟩ => ⟨S2048, .f32⟩
  | .hbm, ⟨4, _⟩ => ⟨S4x1x2048, .f32⟩
  | .hbm, ⟨5, _⟩ => ⟨S16384x5632, .f32⟩
  | .hbm, ⟨6, _⟩ => ⟨S16384x5632, .bf16⟩
  | .hbm, ⟨7, _⟩ => ⟨S16384x2048, .f32⟩
  | .hbm, ⟨8, _⟩ => ⟨S5632x2048, .bf16⟩
  | .hbm, ⟨9, _⟩ => ⟨S1x2048, .f32⟩
  | .hbm, ⟨10, _⟩ => ⟨S16384x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x1x2048, .f32⟩
  | .local _ .vmem, ⟨7, _⟩ => ⟨S1x1x2048, .f32⟩
  | .local _ .vmem, ⟨8, _⟩ => ⟨S256x2048, .f32⟩
  | .local _ .vmem, ⟨9, _⟩ => ⟨S256x2048, .f32⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4x4096x5632 : Shape := ⟨3, ![4, 4096, 5632]⟩
abbrev S5632x2048 : Shape := ⟨2, ![5632, 2048]⟩
abbrev S4x4096x2048 : Shape := ⟨3, ![4, 4096, 2048]⟩
abbrev S2048 : Shape := ⟨1, ![2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x5632, .f32⟩
  | .hbm, ⟨1, _⟩ => ⟨S5632x2048, .f32⟩
  | .hbm, ⟨2, _⟩ => ⟨S4x4096x2048, .f32⟩
  | .hbm, ⟨3, _⟩ => ⟨S2048, .f32⟩
  | .hbm, ⟨4, _⟩ => ⟨S4x1x2048, .f32⟩
  | .hbm, ⟨5, _⟩ => ⟨S4x4096x2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S16384x2048, .f32⟩
  | _, _ => ⟨S4x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel6.lean ====
abbrev S4x4096x2048 : Shape := ⟨3, ![4, 4096, 2048]⟩
abbrev S2048x2048 : Shape := ⟨2, ![2048, 2048]⟩
abbrev S2048 : Shape := ⟨1, ![2048]⟩
abbrev S4x1x2048 : Shape := ⟨3, ![4, 1, 2048]⟩
abbrev S16384x2048 : Shape := ⟨2, ![16384, 2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 16
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S4x1x2048, .f32⟩
  | .hbm, ⟨5, _⟩ => ⟨S2048, .f32⟩
  | .hbm, ⟨6, _⟩ => ⟨S4x1x2048, .f32⟩
  | .hbm, ⟨7, _⟩ => ⟨S4x1x2048, .f32⟩
  | .hbm, ⟨8, _⟩ => ⟨S16384x2048, .f32⟩
  | .hbm, ⟨9, _⟩ => ⟨S16384x2048, .bf16⟩
  | .hbm, ⟨10, _⟩ => ⟨S16384x2048, .f32⟩
  | .hbm, ⟨11, _⟩ => ⟨S2048x2048, .bf16⟩
  | .hbm, ⟨12, _⟩ => ⟨S1x2048, .f32⟩
  | .hbm, ⟨13, _⟩ => ⟨S1x2048, .f32⟩
  | .hbm, ⟨14, _⟩ => ⟨S16384x2048, .f32⟩
  | .hbm, ⟨15, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S4x4096x2048 : Shape := ⟨3, ![4, 4096, 2048]⟩
abbrev S2048x2048 : Shape := ⟨2, ![2048, 2048]⟩
abbrev S2048 : Shape := ⟨1, ![2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S4x1x2048, .f32⟩
  | .hbm, ⟨5, _⟩ => ⟨S2048, .f32⟩
  | .hbm, ⟨6, _⟩ => ⟨S4x1x2048, .f32⟩
  | .hbm, ⟨7, _⟩ => ⟨S4x1x2048, .f32⟩
  | .hbm, ⟨8, _⟩ => ⟨S4x4096x2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x1x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x2048, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | .hbm, ⟨47, _⟩ => ⟨S_, .f32⟩
  | .hbm, ⟨48, _⟩ => ⟨S4x1x2048, .f32⟩
  | .hbm, ⟨49, _⟩ => ⟨S4x1x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S16384x2048, .f32⟩
  | .hbm, ⟨55, _⟩ => ⟨S16384x2048, .f32⟩
  | .hbm, ⟨56, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel7.lean ====
abbrev S4x4096x2048 : Shape := ⟨3, ![4, 4096, 2048]⟩
abbrev S2048x13384 : Shape := ⟨2, ![2048, 13384]⟩
abbrev S2048x1792 : Shape := ⟨2, ![2048, 1792]⟩
abbrev S16384x2048 : Shape := ⟨2, ![16384, 2048]⟩
abbrev S2048x512 : Shape := ⟨2, ![2048, 512]⟩
abbrev S2048x64 : Shape := ⟨2, ![2048, 64]⟩
abbrev S2048x128 : Shape := ⟨2, ![2048, 128]⟩
abbrev S16384x1792 : Shape := ⟨2, ![16384, 1792]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 14
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x13384, .f32⟩
  | .hbm, ⟨2, _⟩ => ⟨S2048x1792, .f32⟩
  | .hbm, ⟨3, _⟩ => ⟨S16384x2048, .f32⟩
  | .hbm, ⟨4, _⟩ => ⟨S16384x2048, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x64, .f32⟩
  | .hbm, ⟨9, _⟩ => ⟨S2048x64, .f32⟩
  | .hbm, ⟨10, _⟩ => ⟨S2048x128, .f32⟩
  | .hbm, ⟨11, _⟩ => ⟨S2048x1792, .f32⟩
  | .hbm, ⟨12, _⟩ => ⟨S2048x1792, .bf16⟩
  | .hbm, ⟨13, _⟩ => ⟨S16384x1792, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4x4096x2048 : Shape := ⟨3, ![4, 4096, 2048]⟩
abbrev S2048x13384 : Shape := ⟨2, ![2048, 13384]⟩
abbrev S4x4096x13384 : Shape := ⟨3, ![4, 4096, 13384]⟩
abbrev S4x4096x1792 : Shape := ⟨3, ![4, 4096, 1792]⟩
abbrev S4x4096x512 : Shape := ⟨3, ![4, 4096, 512]⟩
abbrev S4x4096x64 : Shape := ⟨3, ![4, 4096, 64]⟩
abbrev S4x4096x128 : Shape := ⟨3, ![4, 4096, 128]⟩
abbrev S16384x1792 : Shape := ⟨2, ![16384, 1792]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x13384, .f32⟩
  | .hbm, ⟨2, _⟩ => ⟨S4x4096x13384, .f32⟩
  | .hbm, ⟨3, _⟩ => ⟨S4x4096x1792, .f32⟩
  | .hbm, ⟨4, _⟩ => ⟨S4x4096x512, .f32⟩
  | .hbm, ⟨5, _⟩ => ⟨S4x4096x64, .f32⟩
  | .hbm, ⟨6, _⟩ => ⟨S4x4096x512, .f32⟩
  | .hbm, ⟨7, _⟩ => ⟨S4x4096x512, .f32⟩
  | .hbm, ⟨8, _⟩ => ⟨S4x4096x64, .f32⟩
  | .hbm, ⟨9, _⟩ => ⟨S4x4096x128, .f32⟩
  | .hbm, ⟨10, _⟩ => ⟨S4x4096x1792, .f32⟩
  | .hbm, ⟨11, _⟩ => ⟨S16384x1792, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel8.lean ====
abbrev S4x4096x2048 : Shape := ⟨3, ![4, 4096, 2048]⟩
abbrev S2048x13384 : Shape := ⟨2, ![2048, 13384]⟩
abbrev S2048x1552 : Shape := ⟨2, ![2048, 1552]⟩
abbrev S2048x1024 : Shape := ⟨2, ![2048, 1024]⟩
abbrev S2048x512 : Shape := ⟨2, ![2048, 512]⟩
abbrev S2048x16 : Shape := ⟨2, ![2048, 16]⟩
abbrev S_ : Shape := ⟨0, ![]⟩
abbrev S2048x240 : Shape := ⟨2, ![2048, 240]⟩
abbrev S2048x1792 : Shape := ⟨2, ![2048, 1792]⟩
abbrev S16384x2048 : Shape := ⟨2, ![16384, 2048]⟩
abbrev S16384x1792 : Shape := ⟨2, ![16384, 1792]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 13
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x13384, .f32⟩
  | .hbm, ⟨2, _⟩ => ⟨S2048x1552, .f32⟩
  | .hbm, ⟨3, _⟩ => ⟨S2048x1024, .f32⟩
  | .hbm, ⟨4, _⟩ => ⟨S2048x512, .f32⟩
  | .hbm, ⟨5, _⟩ => ⟨S2048x16, .f32⟩
  | .hbm, ⟨6, _⟩ => ⟨S_, .f32⟩
  | .hbm, ⟨7, _⟩ => ⟨S2048x240, .f32⟩
  | .hbm, ⟨8, _⟩ => ⟨S2048x1792, .f32⟩
  | .hbm, ⟨9, _⟩ => ⟨S16384x2048, .f32⟩
  | .hbm, ⟨10, _⟩ => ⟨S16384x2048, .bf16⟩
  | .hbm, ⟨11, _⟩ => ⟨S2048x1792, .bf16⟩
  | .hbm, ⟨12, _⟩ => ⟨S16384x1792, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4x4096x2048 : Shape := ⟨3, ![4, 4096, 2048]⟩
abbrev S2048x13384 : Shape := ⟨2, ![2048, 13384]⟩
abbrev S4x4096x13384 : Shape := ⟨3, ![4, 4096, 13384]⟩
abbrev S4x4096x1552 : Shape := ⟨3, ![4, 4096, 1552]⟩
abbrev S4x4096x256 : Shape := ⟨3, ![4, 4096, 256]⟩
abbrev S4x4096x512 : Shape := ⟨3, ![4, 4096, 512]⟩
abbrev S4x4096x16 : Shape := ⟨3, ![4, 4096, 16]⟩
abbrev S_ : Shape := ⟨0, ![]⟩
abbrev S4x4096x240 : Shape := ⟨3, ![4, 4096, 240]⟩
abbrev S4x4096x1792 : Shape := ⟨3, ![4, 4096, 1792]⟩
abbrev S16384x1792 : Shape := ⟨2, ![16384, 1792]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x13384, .f32⟩
  | .hbm, ⟨2, _⟩ => ⟨S4x4096x13384, .f32⟩
  | .hbm, ⟨3, _⟩ => ⟨S4x4096x1552, .f32⟩
  | .hbm, ⟨4, _⟩ => ⟨S4x4096x256, .f32⟩
  | .hbm, ⟨5, _⟩ => ⟨S4x4096x256, .f32⟩
  | .hbm, ⟨6, _⟩ => ⟨S4x4096x512, .f32⟩
  | .hbm, ⟨7, _⟩ => ⟨S4x4096x16, .f32⟩
  | .hbm, ⟨8, _⟩ => ⟨S4x4096x512, .f32⟩
  | .hbm, ⟨9, _⟩ => ⟨S_, .f32⟩
  | .hbm, ⟨10, _⟩ => ⟨S4x4096x240, .f32⟩
  | .hbm, ⟨11, _⟩ => ⟨S4x4096x1792, .f32⟩
  | .hbm, ⟨12, _⟩ => ⟨S16384x1792, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel9.lean ====
abbrev S4x4096x2048 : Shape := ⟨3, ![4, 4096, 2048]⟩
abbrev S2048x13384 : Shape := ⟨2, ![2048, 13384]⟩
abbrev S2048x1304 : Shape := ⟨2, ![2048, 1304]⟩
abbrev S2048x128 : Shape := ⟨2, ![2048, 128]⟩
abbrev S2048x24 : Shape := ⟨2, ![2048, 24]⟩
abbrev S16384x2048 : Shape := ⟨2, ![16384, 2048]⟩
abbrev S_ : Shape := ⟨0, ![]⟩
abbrev S2048x104 : Shape := ⟨2, ![2048, 104]⟩
abbrev S2048x512 : Shape := ⟨2, ![2048, 512]⟩
abbrev S16384x512 : Shape := ⟨2, ![16384, 512]⟩
abbrev S1024x2048 : Shape := ⟨2, ![1024, 2048]⟩
abbrev S1024x512 : Shape := ⟨2, ![1024, 512]⟩

abbrev nBuf : Space → Nat
  | .hbm => 14
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x13384, .f32⟩
  | .hbm, ⟨2, _⟩ => ⟨S2048x1304, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x24, .f32⟩
  | .hbm, ⟨7, _⟩ => ⟨S16384x2048, .f32⟩
  | .hbm, ⟨8, _⟩ => ⟨S16384x2048, .bf16⟩
  | .hbm, ⟨9, _⟩ => ⟨S_, .f32⟩
  | .hbm, ⟨10, _⟩ => ⟨S2048x104, .f32⟩
  | .hbm, ⟨11, _⟩ => ⟨S2048x512, .f32⟩
  | .hbm, ⟨12, _⟩ => ⟨S2048x512, .bf16⟩
  | .hbm, ⟨13, _⟩ => ⟨S16384x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4x4096x2048 : Shape := ⟨3, ![4, 4096, 2048]⟩
abbrev S2048x13384 : Shape := ⟨2, ![2048, 13384]⟩
abbrev S4x4096x13384 : Shape := ⟨3, ![4, 4096, 13384]⟩
abbrev S4x4096x1304 : Shape := ⟨3, ![4, 4096, 1304]⟩
abbrev S4x4096x512 : Shape := ⟨3, ![4, 4096, 512]⟩
abbrev S4x4096x128 : Shape := ⟨3, ![4, 4096, 128]⟩
abbrev S4x4096x24 : Shape := ⟨3, ![4, 4096, 24]⟩
abbrev S_ : Shape := ⟨0, ![]⟩
abbrev S4x4096x104 : Shape := ⟨3, ![4, 4096, 104]⟩
abbrev S16384x512 : Shape := ⟨2, ![16384, 512]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x13384, .f32⟩
  | .hbm, ⟨2, _⟩ => ⟨S4x4096x13384, .f32⟩
  | .hbm, ⟨3, _⟩ => ⟨S4x4096x1304, .f32⟩
  | .hbm, ⟨4, _⟩ => ⟨S4x4096x512, .f32⟩
  | .hbm, ⟨5, _⟩ => ⟨S4x4096x128, .f32⟩
  | .hbm, ⟨6, _⟩ => ⟨S4x4096x128, .f32⟩
  | .hbm, ⟨7, _⟩ => ⟨S4x4096x128, .f32⟩
  | .hbm, ⟨8, _⟩ => ⟨S4x4096x128, .f32⟩
  | .hbm, ⟨9, _⟩ => ⟨S4x4096x128, .f32⟩
  | .hbm, ⟨10, _⟩ => ⟨S4x4096x128, .f32⟩
  | .hbm, ⟨11, _⟩ => ⟨S4x4096x24, .f32⟩
  | .hbm, ⟨12, _⟩ => ⟨S_, .f32⟩
  | .hbm, ⟨13, _⟩ => ⟨S4x4096x104, .f32⟩
  | .hbm, ⟨14, _⟩ => ⟨S4x4096x512, .f32⟩
  | .hbm, ⟨15, _⟩ => ⟨S16384x512, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel10.lean ====
abbrev S4x4096x2048 : Shape := ⟨3, ![4, 4096, 2048]⟩
abbrev S2048x13384 : Shape := ⟨2, ![2048, 13384]⟩
abbrev S2048x544 : Shape := ⟨2, ![2048, 544]⟩
abbrev S16384x2048 : Shape := ⟨2, ![16384, 2048]⟩
abbrev S2048x384 : Shape := ⟨2, ![2048, 384]⟩
abbrev S16384x384 : Shape := ⟨2, ![16384, 384]⟩
abbrev S1024x2048 : Shape := ⟨2, ![1024, 2048]⟩
abbrev S1024x384 : Shape := ⟨2, ![1024, 384]⟩

abbrev nBuf : Space → Nat
  | .hbm => 8
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x13384, .f32⟩
  | .hbm, ⟨2, _⟩ => ⟨S2048x544, .f32⟩
  | .hbm, ⟨3, _⟩ => ⟨S16384x2048, .f32⟩
  | .hbm, ⟨4, _⟩ => ⟨S16384x2048, .bf16⟩
  | .hbm, ⟨5, _⟩ => ⟨S2048x384, .f32⟩
  | .hbm, ⟨6, _⟩ => ⟨S2048x384, .bf16⟩
  | .hbm, ⟨7, _⟩ => ⟨S16384x384, .f32⟩
  | .local _ .vmem, ⟨0, _⟩ => ⟨S1024x2048, .bf16⟩
  | .local _ .vmem, ⟨1, _⟩ => ⟨S1024x2048, .bf16⟩
  | .local _ .vmem, ⟨2, _⟩ => ⟨S2048x384, .bf16⟩
  | .local _ .vmem, ⟨3, _⟩ => ⟨S1024x384, .f32⟩
  | .local _ .vmem, ⟨4, _⟩ => ⟨S1024x384, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4x4096x2048 : Shape := ⟨3, ![4, 4096, 2048]⟩
abbrev S2048x13384 : Shape := ⟨2, ![2048, 13384]⟩
abbrev S4x4096x13384 : Shape := ⟨3, ![4, 4096, 13384]⟩
abbrev S4x4096x544 : Shape := ⟨3, ![4, 4096, 544]⟩
abbrev S4x4096x384 : Shape := ⟨3, ![4, 4096, 384]⟩
abbrev S4x4096x128 : Shape := ⟨3, ![4, 4096, 128]⟩
abbrev S4x4096x32 : Shape := ⟨3, ![4, 4096, 32]⟩
abbrev S16384x384 : Shape := ⟨2, ![16384, 384]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x13384, .f32⟩
  | .hbm, ⟨2, _⟩ => ⟨S4x4096x13384, .f32⟩
  | .hbm, ⟨3, _⟩ => ⟨S4x4096x544, .f32⟩
  | .hbm, ⟨4, _⟩ => ⟨S4x4096x384, .f32⟩
  | .hbm, ⟨5, _⟩ => ⟨S4x4096x128, .f32⟩
  | .hbm, ⟨6, _⟩ => ⟨S4x4096x32, .f32⟩
  | .hbm, ⟨7, _⟩ => ⟨S16384x384, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel11.lean ====
abbrev S4x4096x2048 : Shape := ⟨3, ![4, 4096, 2048]⟩
abbrev S2048x13384 : Shape := ⟨2, ![2048, 13384]⟩
abbrev S2048x544 : Shape := ⟨2, ![2048, 544]⟩
abbrev S16384x2048 : Shape := ⟨2, ![16384, 2048]⟩
abbrev S2048x128 : Shape := ⟨2, ![2048, 128]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 8
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x13384, .f32⟩
  | .hbm, ⟨2, _⟩ => ⟨S2048x544, .f32⟩
  | .hbm, ⟨3, _⟩ => ⟨S16384x2048, .f32⟩
  | .hbm, ⟨4, _⟩ => ⟨S16384x2048, .bf16⟩
  | .hbm, ⟨5, _⟩ => ⟨S2048x128, .f32⟩
  | .hbm, ⟨6, _⟩ => ⟨S2048x128, .bf16⟩
  | .hbm, ⟨7, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4x4096x2048 : Shape := ⟨3, ![4, 4096, 2048]⟩
abbrev S2048x13384 : Shape := ⟨2, ![2048, 13384]⟩
abbrev S4x4096x13384 : Shape := ⟨3, ![4, 4096, 13384]⟩
abbrev S4x4096x544 : Shape := ⟨3, ![4, 4096, 544]⟩
abbrev S4x4096x384 : Shape := ⟨3, ![4, 4096, 384]⟩
abbrev S4x4096x128 : Shape := ⟨3, ![4, 4096, 128]⟩
abbrev S4x4096x32 : Shape := ⟨3, ![4, 4096, 32]⟩
abbrev S16384x128 : Shape := ⟨2, ![16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x13384, .f32⟩
  | .hbm, ⟨2, _⟩ => ⟨S4x4096x13384, .f32⟩
  | .hbm, ⟨3, _⟩ => ⟨S4x4096x544, .f32⟩
  | .hbm, ⟨4, _⟩ => ⟨S4x4096x384, .f32⟩
  | .hbm, ⟨5, _⟩ => ⟨S4x4096x128, .f32⟩
  | .hbm, ⟨6, _⟩ => ⟨S4x4096x32, .f32⟩
  | .hbm, ⟨7, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel12.lean ====
abbrev S4x4096x128 : Shape := ⟨3, ![4, 4096, 128]⟩
abbrev S128 : Shape := ⟨1, ![128]⟩
abbrev S128x1024 : Shape := ⟨2, ![128, 1024]⟩
abbrev S16384x128 : Shape := ⟨2, ![16384, 128]⟩
abbrev S1x128 : Shape := ⟨2, ![1, 128]⟩
abbrev S16384x1024 : Shape := ⟨2, ![16384, 1024]⟩
abbrev S1024x128 : Shape := ⟨2, ![1024, 128]⟩
abbrev S128x512 : Shape := ⟨2, ![128, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x4096x128, .f32⟩
  | .hbm, ⟨1, _⟩ => ⟨S128, .f32⟩
  | .hbm, ⟨2, _⟩ => ⟨S128x1024, .f32⟩
  | .hbm, ⟨3, _⟩ => ⟨S16384x128, .f32⟩
  | .hbm, ⟨4, _⟩ => ⟨S1x128, .f32⟩
  | .hbm, ⟨5, _⟩ => ⟨S128x1024, .bf16⟩
  | .hbm, ⟨6, _⟩ => ⟨S16384x1024, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S128x512, .bf16⟩
  | .local _ .vmem, ⟨4, _⟩ => ⟨S128x512, .bf16⟩
  | .local _ .vmem, ⟨5, _⟩ => ⟨S1024x512, .f32⟩
  | .local _ .vmem, ⟨6, _⟩ => ⟨S1024x512, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S4x4096x128 : Shape := ⟨3, ![4, 4096, 128]⟩
abbrev S128 : Shape := ⟨1, ![128]⟩
abbrev S128x1024 : Shape := ⟨2, ![128, 1024]⟩
abbrev S_ : Shape := ⟨0, ![]⟩
abbrev S4x4096 : Shape := ⟨2, ![4, 4096]⟩
abbrev S4x4096x1 : Shape := ⟨3, ![4, 4096, 1]⟩
abbrev S1x1x128 : Shape := ⟨3, ![1, 1, 128]⟩
abbrev S4x4096x1024 : Shape := ⟨3, ![4, 4096, 1024]⟩
abbrev S16384x1024 : Shape := ⟨2, ![16384, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S128, .f32⟩
  | .hbm, ⟨2, _⟩ => ⟨S128x1024, .f32⟩
  | .hbm, ⟨3, _⟩ => ⟨S4x4096x128, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x128, .f32⟩
  | .hbm, ⟨15, _⟩ => ⟨S4x4096x128, .f32⟩
  | .hbm, ⟨16, _⟩ => ⟨S1x1x128, .f32⟩
  | .hbm, ⟨17, _⟩ => ⟨S4x4096x128, .f32⟩
  | .hbm, ⟨18, _⟩ => ⟨S4x4096x128, .f32⟩
  | .hbm, ⟨19, _⟩ => ⟨S4x4096x1024, .f32⟩
  | .hbm, ⟨20, _⟩ => ⟨S16384x1024, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel13.lean ====
abbrev S4x4096x2048 : Shape := ⟨3, ![4, 4096, 2048]⟩
abbrev S2048 : Shape := ⟨1, ![2048]⟩
abbrev S4x1x2048 : Shape := ⟨3, ![4, 1, 2048]⟩
abbrev S16384x2048 : Shape := ⟨2, ![16384, 2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S16384x2048, .f32⟩
  | .hbm, ⟨5, _⟩ => ⟨S1x2048, .f32⟩
  | .hbm, ⟨6, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S4x4096x2048 : Shape := ⟨3, ![4, 4096, 2048]⟩
abbrev S2048 : Shape := ⟨1, ![2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S_, .f32⟩
  | .hbm, ⟨21, _⟩ => ⟨S4x1x2048, .f32⟩
  | .hbm, ⟨22, _⟩ => ⟨S4x1x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S16384x2048, .f32⟩
  | .hbm, ⟨28, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel14.lean ====
abbrev S4x2048 : Shape := ⟨2, ![4, 2048]⟩
abbrev S2x3x2048x6144 : Shape := ⟨4, ![2, 3, 2048, 6144]⟩
abbrev S2x3x6144 : Shape := ⟨3, ![2, 3, 6144]⟩
abbrev S6x2048x6144 : Shape := ⟨3, ![6, 2048, 6144]⟩
abbrev S6x1x6144 : Shape := ⟨3, ![6, 1, 6144]⟩
abbrev S_ : Shape := ⟨0, ![]⟩
abbrev S8x2048 : Shape := ⟨2, ![8, 2048]⟩
abbrev S1 : Shape := ⟨1, ![1]⟩
abbrev S6x8x6144 : Shape := ⟨3, ![6, 8, 6144]⟩
abbrev S1x2048x512 : Shape := ⟨3, ![1, 2048, 512]⟩
abbrev S1x1x512 : Shape := ⟨3, ![1, 1, 512]⟩
abbrev S1x8x512 : Shape := ⟨3, ![1, 8, 512]⟩
abbrev S2048x512 : Shape := ⟨2, ![2048, 512]⟩
abbrev S8x512 : Shape := ⟨2, ![8, 512]⟩
abbrev S1x512 : Shape := ⟨2, ![1, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2x3x2048x6144, .f32⟩
  | .hbm, ⟨2, _⟩ => ⟨S2x3x6144, .f32⟩
  | .hbm, ⟨3, _⟩ => ⟨S6x2048x6144, .f32⟩
  | .hbm, ⟨4, _⟩ => ⟨S6x1x6144, .f32⟩
  | .hbm, ⟨5, _⟩ => ⟨S_, .f32⟩
  | .hbm, ⟨6, _⟩ => ⟨S8x2048, .f32⟩
  | .hbm, ⟨7, _⟩ => ⟨S_, .i32⟩
  | .hbm, ⟨8, _⟩ => ⟨S1, .i32⟩
  | .hbm, ⟨9, _⟩ => ⟨S8x2048, .f32⟩
  | .hbm, ⟨10, _⟩ => ⟨S6x8x6144, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![6, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S4x2048 : Shape := ⟨2, ![4, 2048]⟩
abbrev S2x3x2048x6144 : Shape := ⟨4, ![2, 3, 2048, 6144]⟩
abbrev S2x3x6144 : Shape := ⟨3, ![2, 3, 6144]⟩
abbrev S_ : Shape := ⟨0, ![]⟩
abbrev S8x2048 : Shape := ⟨2, ![8, 2048]⟩
abbrev S6x2048x6144 : Shape := ⟨3, ![6, 2048, 6144]⟩
abbrev S8x6x6144 : Shape := ⟨3, ![8, 6, 6144]⟩
abbrev S6x8x6144 : Shape := ⟨3, ![6, 8, 6144]⟩
abbrev S6x1x6144 : Shape := ⟨3, ![6, 1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2x3x2048x6144, .f32⟩
  | .hbm, ⟨2, _⟩ => ⟨S2x3x6144, .f32⟩
  | .hbm, ⟨3, _⟩ => ⟨S_, .f32⟩
  | .hbm, ⟨4, _⟩ => ⟨S4x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S6x2048x6144, .f32⟩
  | .hbm, ⟨16, _⟩ => ⟨S8x6x6144, .f32⟩
  | .hbm, ⟨17, _⟩ => ⟨S6x8x6144, .f32⟩
  | .hbm, ⟨18, _⟩ => ⟨S6x1x6144, .f32⟩
  | .hbm, ⟨19, _⟩ => ⟨S6x8x6144, .f32⟩
  | .hbm, ⟨20, _⟩ => ⟨S6x8x6144, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Proof.Attn.Block.lean ====
/- What one grid point of the attention kernel leaves in its output block, as a function of the point's
   blocks of queries, keys and values: the running maximum, the running sum and the accumulator
   after the first tile, after each pair of tiles, and after the odd tile. -/
module

public import proofs.«01_k».proof.Proof.Gen.KernelIdeal.Value
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.ShloMosaic.Tactic Idealize.SL.Sem

variable {F : FTy → Type} [FloatOps F] [Named F]

/-- The state the kernel carries over the tiles of keys: maximum, sum, accumulator. -/
abbrev St (F : FTy → Type) : Type := Vec F S1x512 .f32 × Vec F S1x512 .f32 × Vec F S64x512 .f32

/-- The state after two tiles of keys `A`, `B` with values `C`, `D`. -/
def pairStep (v1 : FVec F S128x512 .bf16) (A B : Vec F S1x1x512x128 .bf16) (C D : Vec F S1x1x1x64x512 .bf16) (s : St F) : St F :=
  (k0_pay4 (k0_pay12 v1 A B s.1), k0_pay2 (k0_pay13 v1 A B s.1) (k0_pay14 v1 A B s.1) s.2.1,
    k0_pay3 (k0_pay11 C D) (k0_pay13 v1 A B s.1) (k0_pay14 v1 A B s.1) s.2.2)

/-- The state after one tile of keys `A` with values `C`. -/
def oneStep (v1 : FVec F S128x512 .bf16) (A : Vec F S1x1x512x128 .bf16) (C : Vec F S1x1x1x64x512 .bf16) (s : St F) : St F :=
  (k0_pay8 (k0_pay21 v1 A s.1), k0_pay24 v1 A s.1 s.2.1, k0_pay25 v1 A C s.1 s.2.2)

/-- The state after the masked tile on the diagonal. -/
def firstStep (x0 : Vec F S1x1x1x128x512 .bf16) (A : Vec F S1x1x512x128 .bf16) (C : Vec F S1x1x1x64x512 .bf16) : St F :=
  (k0_pay31 x0 A, k0_pay32 x0 A, k0_pay1 (k0_pay28 C) (k0_pay33 x0 A) (constant S64x512 .f32 0x00000000#32))

/-- The state after the first `k` trips of the loop over pairs of tiles. -/
def pairs (i : grid0.Coords) (v1 : FVec F S128x512 .bf16) (x1 : Vec F S1x1x4096x128 .bf16) (x2 : Vec F S1x1x8x64x512 .bf16) (s : St F) : ℕ → St F
  | 0 => s
  | k + 1 => if h : k < (k0_t1_loop i).trips then
      pairStep v1 (View.ld x1 (Rect.unit (s := S1x1x4096x128) (k0_off3 i ⟨k, h⟩) S1x1x512x128.size (k0_off3_inb i ⟨k, h⟩)))
        (View.ld x1 (Rect.unit (s := S1x1x4096x128) (k0_off5 i ⟨k, h⟩) S1x1x512x128.size (k0_off5_inb i ⟨k, h⟩)))
        (View.ld x2 (Rect.unit (s := S1x1x8x64x512) (k0_off4 i ⟨k, h⟩) S1x1x1x64x512.size (k0_off4_inb i ⟨k, h⟩)))
        (View.ld x2 (Rect.unit (s := S1x1x8x64x512) (k0_off6 i ⟨k, h⟩) S1x1x1x64x512.size (k0_off6_inb i ⟨k, h⟩)))
        (pairs i v1 x1 x2 s k)
    else pairs i v1 x1 x2 s k

section
variable (𝒱 : Variants) (c : Dev nD) (bd : Option 𝒱.V) (i : grid0.Coords) (arg3 : Memref sig .tc .vmem S1x1x1x128x512 .bf16) (harg3 : arg3.IsWhole)
    (arg4 : Memref sig .tc .vmem S1x1x4096x128 .bf16) (harg4 : arg4.IsWhole)
    (arg5 : Memref sig .tc .vmem S1x1x8x64x512 .bf16) (harg5 : arg5.IsWhole)
    (arg6 : Memref sig .tc .vmem S1x1x1x64x512 .bf16) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S64x512 .f32) (harg9 : arg9.IsWhole)

/-- One trip's stores: each of the three buffers is stored whole, with the step's value. -/
theorem tripL_eq (v1 : FVec F S128x512 .bf16) (X4 : BufTy.Contents (Elt F) arg4.view.ty) (X5 : BufTy.Contents (Elt F) arg5.view.ty) (k : Fin (k0_t1_loop i).trips)
    (f7 : BufTy.Contents (Elt F) arg7.view.ty) (f8 : BufTy.Contents (Elt F) arg8.view.ty) (f9 : BufTy.Contents (Elt F) arg9.view.ty) :
    tripL_k0_t1 (F := F) 𝒱 c bd i arg3 harg3 arg4 harg4 arg5 harg5 arg6 harg6 arg7 harg7 arg8 harg8 arg9 harg9 v1 X4 X5 k f7 f8 f9 =
      let s := pairStep v1 (View.readAt (Elt F) arg4.view (Rect.unit (s := S1x1x4096x128) (k0_off3 i k) S1x1x512x128.size (k0_off3_inb i k)).toLoadRect X4)
        (View.readAt (Elt F) arg4.view (Rect.unit (s := S1x1x4096x128) (k0_off5 i k) S1x1x512x128.size (k0_off5_inb i k)).toLoadRect X4)
        (View.readAt (Elt F) arg5.view (Rect.unit (s := S1x1x8x64x512) (k0_off4 i k) S1x1x1x64x512.size (k0_off4_inb i k)).toLoadRect X5)
        (View.readAt (Elt F) arg5.view (Rect.unit (s := S1x1x8x64x512) (k0_off6 i k) S1x1x1x64x512.size (k0_off6_inb i k)).toLoadRect X5)
        (View.readAt (Elt F) arg7.view (Rect.unit (s := S1x512) ![0, 0] S1x512.size inb_S1x512_S1x512_0_0).toLoadRect f7,
         View.readAt (Elt F) arg8.view (Rect.unit (s := S1x512) ![0, 0] S1x512.size inb_S1x512_S1x512_0_0).toLoadRect f8,
         View.readAt (Elt F) arg9.view (Rect.unit (s := S64x512) ![0, 0] S64x512.size inb_S64x512_S64x512_0_0).toLoadRect f9)
      ([⟨Rect.unit (s := S1x512) ![0, 0] S1x512.size inb_S1x512_S1x512_0_0, s.1⟩],
       [⟨Rect.unit (s := S1x512) ![0, 0] S1x512.size inb_S1x512_S1x512_0_0, s.2.1⟩],
       [⟨Rect.unit (s := S64x512) ![0, 0] S64x512.size inb_S64x512_S64x512_0_0, s.2.2⟩]) := by
  unfold tripL_k0_t1 trip_k0_t1
  rfl

/-- Reading a buffer after a store of the whole of it gives what was stored. -/
theorem read_whole {S : Shape} {e : EltTy} {sp : Space} {κ : Kind} (v : View sig κ sp S e) (f : v.ty.Contents (Elt F)) {off : Fin S.rank → Nat}
    (hz : ∀ a, off a = 0) (inb : ∀ a, off a + S.size a ≤ S.size a) (w : S.Idx → Elt F e) (L : List (View.Piece (Elt F) S e)) :
    v.read (Elt F) (v.writes (Elt F) f ((⟨Rect.unit off (no_index S.size) inb, w⟩ : View.Piece (Elt F) S e) :: L)) = w := by
  funext y
  exact View.read_writes_cons_hit_of_coords v f (Rect.unit off S.size inb) w L y y (fun a => by simp [Rect.unit, hz a])

/-- What the three buffers read after the first `k` trips is the state's iteration. -/
theorem reads_pairs (v1 : FVec F S128x512 .bf16) (x1 : Vec F S1x1x4096x128 .bf16) (x2 : Vec F S1x1x8x64x512 .bf16)
    (G7 : BufTy.Contents (Elt F) arg7.view.ty) (G8 : BufTy.Contents (Elt F) arg8.view.ty) (G9 : BufTy.Contents (Elt F) arg9.view.ty) (k : ℕ) :
    (arg7.view.read (Elt F) (arg7.view.writes (Elt F) G7 (pb_k0_t1 (F := F) 𝒱 c bd i arg3 harg3 arg4 harg4 arg5 harg5 arg6 harg6 arg7 harg7 arg8 harg8 arg9 harg9 v1 (harg4.unread x1) (harg5.unread x2) G7 G8 G9 k).1),
     arg8.view.read (Elt F) (arg8.view.writes (Elt F) G8 (pb_k0_t1 (F := F) 𝒱 c bd i arg3 harg3 arg4 harg4 arg5 harg5 arg6 harg6 arg7 harg7 arg8 harg8 arg9 harg9 v1 (harg4.unread x1) (harg5.unread x2) G7 G8 G9 k).2.1),
     arg9.view.read (Elt F) (arg9.view.writes (Elt F) G9 (pb_k0_t1 (F := F) 𝒱 c bd i arg3 harg3 arg4 harg4 arg5 harg5 arg6 harg6 arg7 harg7 arg8 harg8 arg9 harg9 v1 (harg4.unread x1) (harg5.unread x2) G7 G8 G9 k).2.2))
      = pairs i v1 x1 x2 (arg7.view.read (Elt F) G7, arg8.view.read (Elt F) G8, arg9.view.read (Elt F) G9) k := by
  induction k with
  | zero => rfl
  | succ k ih =>
    rw [pairs, ← ih]
    by_cases h : k < (k0_t1_loop i).trips
    · rw [dif_pos h]
      rw [show k + 1 = (⟨k, h⟩ : Fin (k0_t1_loop i).trips).val + 1 from rfl, pb_k0_t1_succ, tripL_eq]
      dsimp only
      simp only [View.readAt_eq_ld, harg4.read_unread, harg5.read_unread, List.cons_append, List.nil_append]
      simp (disch := decide) only [View.ld_unit_lit]
      refine Prod.ext ?_ (Prod.ext ?_ ?_)
      · exact read_whole (S := S1x512) _ _ (by decide) _ _ _
      · exact read_whole (S := S1x512) _ _ (by decide) _ _ _
      · exact read_whole (S := S64x512) _ _ (by decide) _ _ _
    · rw [dif_neg h, pb_k0_t1.eq_2]
      unfold pb_k0_t1Step
      rw [dif_neg h]
end

/-- The second loop of the printed kernel has no trip: its bounds are equal. -/
theorem trips2 (i : grid0.Coords) : Scf.trips
    (Scalar.addi (0#32) (Scalar.muli (Scalar.divsi (Scalar.subi (Scalar.shrsi (BitVec.ofNat 32 ↑(i 2)) 1#32) 0#32) 1#32) 1#32))
    (Scalar.addi (0#32) (Scalar.subi (Scalar.shrsi (BitVec.ofNat 32 ↑(i 2)) 1#32) 0#32)) 1#32 = 0 :=
  (by decide +kernel : ∀ a : Fin 8, Scf.trips
    (Scalar.addi (0#32) (Scalar.muli (Scalar.divsi (Scalar.subi (Scalar.shrsi (BitVec.ofNat 32 ↑a) 1#32) 0#32) 1#32) 1#32))
    (Scalar.addi (0#32) (Scalar.subi (Scalar.shrsi (BitVec.ofNat 32 ↑a) 1#32) 0#32)) 1#32 = 0) (i 2)

/-- The first loop's trip count as its bounds spell it. -/
theorem trips1 (i : grid0.Coords) : Scf.trips (0#32)
    (Scalar.addi (0#32) (Scalar.muli (Scalar.divsi (Scalar.subi (Scalar.shrsi (BitVec.ofNat 32 ↑(i 2)) 1#32) 0#32) 1#32) 1#32)) 1#32
    = (k0_t1_loop i).trips := rfl

/-- The tile of keys on the diagonal. -/
def kDiag (i : grid0.Coords) (x1 : Vec F S1x1x4096x128 .bf16) : Vec F S1x1x512x128 .bf16 :=
  View.ld x1 (Rect.unit (s := S1x1x4096x128) (k0_off1 i) S1x1x512x128.size (k0_off1_inb i))

/-- The tile of values on the diagonal. -/
def vDiag (i : grid0.Coords) (x2 : Vec F S1x1x8x64x512 .bf16) : Vec F S1x1x1x64x512 .bf16 :=
  View.ld x2 (Rect.unit (s := S1x1x8x64x512) (k0_off2 i) S1x1x1x64x512.size (k0_off2_inb i))

/-- The state after the diagonal tile and all pairs. -/
def afterPairs (i : grid0.Coords) (x0 : Vec F S1x1x1x128x512 .bf16) (x1 : Vec F S1x1x4096x128 .bf16) (x2 : Vec F S1x1x8x64x512 .bf16) : St F :=
  pairs i (k0_pay26 x0) x1 x2 (firstStep x0 (kDiag i x1) (vDiag i x2)) (k0_t1_loop i).trips

set_option maxHeartbeats 1000000 in
/-- The block a point with an even number of earlier tiles writes. -/
theorem outA_eq (c : Dev nD) (i : grid0.Coords) (arg3 : Memref sig .tc .vmem S1x1x1x128x512 .bf16) (harg3 : arg3.IsWhole)
    (arg4 : Memref sig .tc .vmem S1x1x4096x128 .bf16) (harg4 : arg4.IsWhole)
    (arg5 : Memref sig .tc .vmem S1x1x8x64x512 .bf16) (harg5 : arg5.IsWhole)
    (arg6 : Memref sig .tc .vmem S1x1x1x64x512 .bf16) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S64x512 .f32) (harg9 : arg9.IsWhole) (hc0 : ¬cond0_0 i)
    (x0 : Vec F S1x1x1x128x512 .bf16) (x1 : Vec F S1x1x4096x128 .bf16) (x2 : Vec F S1x1x8x64x512 .bf16) :
    out0_A_3 c i arg3 harg3 arg4 harg4 arg5 harg5 arg6 harg6 arg7 harg7 arg8 harg8 arg9 harg9 hc0 x0 x1 x2 = k0_pay9 (afterPairs i x0 x1 x2).2.2 (afterPairs i x0 x1 x2).2.1 := by
  frame_out
  have e7 : ∀ w, arg7.view.read (Elt F) (arg7.view.writes (Elt F) arg7.view.junk [⟨Rect.unit (s := S1x512) ![0, 0] S1x512.size inb_S1x512_S1x512_0_0, w⟩]) = w := fun w => read_whole _ _ (by decide) _ _ _
  have e8 : ∀ w, arg8.view.read (Elt F) (arg8.view.writes (Elt F) arg8.view.junk [⟨Rect.unit (s := S1x512) ![0, 0] S1x512.size inb_S1x512_S1x512_0_0, w⟩]) = w := fun w => read_whole _ _ (by decide) _ _ _
  have e9 : ∀ w, arg9.view.read (Elt F) (arg9.view.writes (Elt F) arg9.view.junk [⟨Rect.unit (s := S64x512) ![0, 0] S64x512.size inb_S64x512_S64x512_0_0, w⟩]) = w := fun w => read_whole _ _ (by decide) _ _ _
  have key := reads_pairs Variants.none c none i arg3 harg3 arg4 harg4 arg5 harg5 arg6 harg6 arg7 harg7 arg8 harg8 arg9 harg9 (k0_pay26 x0) x1 x2
    (arg7.view.writes (Elt F) arg7.view.junk [⟨Rect.unit (s := S1x512) ![0, 0] S1x512.size inb_S1x512_S1x512_0_0, k0_pay31 x0 (kDiag i x1)⟩])
    (arg8.view.writes (Elt F) arg8.view.junk [⟨Rect.unit (s := S1x512) ![0, 0] S1x512.size inb_S1x512_S1x512_0_0, k0_pay32 x0 (kDiag i x1)⟩])
    (arg9.view.writes (Elt F) arg9.view.junk [⟨Rect.unit (s := S64x512) ![0, 0] S64x512.size inb_S64x512_S64x512_0_0, k0_pay1 (k0_pay28 (vDiag i x2)) (k0_pay33 x0 (kDiag i x1)) (constant S64x512 .f32 0x00000000#32)⟩])
    (k0_t1_loop i).trips
  rw [e7, e8, e9] at key
  unfold afterPairs firstStep
  rw [← key]
  unfold View.readCov kDiag vDiag
  simp only [View.writes_append, trips2, trips1, View.readAt_eq_ld, pb_k0_t2, View.writes_nil]
  simp (disch := decide) only [View.ld_unit_lit]

/-- The tile before the diagonal, of keys. -/
def kLast (i : grid0.Coords) (hc0 : cond0_0 i) (x1 : Vec F S1x1x4096x128 .bf16) : Vec F S1x1x512x128 .bf16 :=
  View.ld x1 (Rect.unit (s := S1x1x4096x128) (k0_off11 i) S1x1x512x128.size (k0_off11_inb i hc0))

/-- The tile before the diagonal, of values. -/
def vLast (i : grid0.Coords) (hc0 : cond0_0 i) (x2 : Vec F S1x1x8x64x512 .bf16) : Vec F S1x1x1x64x512 .bf16 :=
  View.ld x2 (Rect.unit (s := S1x1x8x64x512) (k0_off12 i) S1x1x1x64x512.size (k0_off12_inb i hc0))

set_option maxHeartbeats 1000000 in
/-- The block a point with an odd number of earlier tiles writes: one more tile after the pairs. -/
theorem outB_eq (c : Dev nD) (i : grid0.Coords) (arg3 : Memref sig .tc .vmem S1x1x1x128x512 .bf16) (harg3 : arg3.IsWhole)
    (arg4 : Memref sig .tc .vmem S1x1x4096x128 .bf16) (harg4 : arg4.IsWhole)
    (arg5 : Memref sig .tc .vmem S1x1x8x64x512 .bf16) (harg5 : arg5.IsWhole)
    (arg6 : Memref sig .tc .vmem S1x1x1x64x512 .bf16) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S64x512 .f32) (harg9 : arg9.IsWhole) (hc0 : cond0_0 i)
    (x0 : Vec F S1x1x1x128x512 .bf16) (x1 : Vec F S1x1x4096x128 .bf16) (x2 : Vec F S1x1x8x64x512 .bf16) :
    out0_B_3 c i arg3 harg3 arg4 harg4 arg5 harg5 arg6 harg6 arg7 harg7 arg8 harg8 arg9 harg9 hc0 x0 x1 x2 =
      k0_pay9 (oneStep (k0_pay26 x0) (kLast i hc0 x1) (vLast i hc0 x2) (afterPairs i x0 x1 x2)).2.2
        (oneStep (k0_pay26 x0) (kLast i hc0 x1) (vLast i hc0 x2) (afterPairs i x0 x1 x2)).2.1 := by
  frame_out
  have e7 : ∀ w, arg7.view.read (Elt F) (arg7.view.writes (Elt F) arg7.view.junk [⟨Rect.unit (s := S1x512) ![0, 0] S1x512.size inb_S1x512_S1x512_0_0, w⟩]) = w := fun w => read_whole _ _ (by decide) _ _ _
  have e8 : ∀ w, arg8.view.read (Elt F) (arg8.view.writes (Elt F) arg8.view.junk [⟨Rect.unit (s := S1x512) ![0, 0] S1x512.size inb_S1x512_S1x512_0_0, w⟩]) = w := fun w => read_whole _ _ (by decide) _ _ _
  have e9 : ∀ w, arg9.view.read (Elt F) (arg9.view.writes (Elt F) arg9.view.junk [⟨Rect.unit (s := S64x512) ![0, 0] S64x512.size inb_S64x512_S64x512_0_0, w⟩]) = w := fun w => read_whole _ _ (by decide) _ _ _
  have key := reads_pairs Variants.none c none i arg3 harg3 arg4 harg4 arg5 harg5 arg6 harg6 arg7 harg7 arg8 harg8 arg9 harg9 (k0_pay26 x0) x1 x2
    (arg7.view.writes (Elt F) arg7.view.junk [⟨Rect.unit (s := S1x512) ![0, 0] S1x512.size inb_S1x512_S1x512_0_0, k0_pay31 x0 (kDiag i x1)⟩])
    (arg8.view.writes (Elt F) arg8.view.junk [⟨Rect.unit (s := S1x512) ![0, 0] S1x512.size inb_S1x512_S1x512_0_0, k0_pay32 x0 (kDiag i x1)⟩])
    (arg9.view.writes (Elt F) arg9.view.junk [⟨Rect.unit (s := S64x512) ![0, 0] S64x512.size inb_S64x512_S64x512_0_0, k0_pay1 (k0_pay28 (vDiag i x2)) (k0_pay33 x0 (kDiag i x1)) (constant S64x512 .f32 0x00000000#32)⟩])
    (k0_t1_loop i).trips
  rw [e7, e8, e9] at key
  unfold afterPairs firstStep
  rw [← key]
  unfold View.readCov kDiag vDiag
  simp only [View.writes_append, trips2, trips1, View.readAt_eq_ld, pb_k0_t2, View.writes_nil]
  simp (disch := decide) only [View.ld_unit_lit]
  unfold kLast vLast
  simp (disch := decide) only [read_whole]

end Cert.KernelIdeal.Attn

end
-- ==== Proof.Attn.Softmax.lean ====
/- The exponential of an extended real as a real number, and the sums of such exponentials that a softmax
   takes: shifting every score by a real number only multiplies the sums by one factor. -/
module

public import Idealize.ShloMosaic.PureOps
public import Idealize.ShloMosaic.Lib.Pointwise
public import Idealize.ShloMosaic.Lib.WordArith
public import Idealize.ShloMosaic.Lib.Affine

@[expose] public section

noncomputable section

namespace Cert.Soft

open Idealize.ShloMosaic

/-- The weight of a score: its exponential, and 0 for a score of minus infinity. -/
def E (x : EReal) : ℝ := (Ideal.exp x).toReal

@[simp] theorem E_bot : E ⊥ = 0 := by simp [E]

@[simp] theorem E_coe (r : ℝ) : E (r : EReal) = Real.exp r := by simp [E]

theorem E_nonneg (x : EReal) (h : x ≠ ⊤) : 0 ≤ E x := by
  induction x using EReal.rec with
  | bot => simp
  | coe r => simpa using (Real.exp_pos r).le
  | top => exact absurd rfl h

/-- The exponential of a shifted score is its weight times one factor. -/
theorem exp_sub (x : EReal) (h : x ≠ ⊤) (M : ℝ) : Ideal.exp (x - (M : EReal)) = ((Real.exp (-M) * E x : ℝ) : EReal) := by
  induction x using EReal.rec with
  | bot => simp
  | coe r =>
    rw [← EReal.coe_sub, Ideal.exp_coe, E_coe, ← Real.exp_add]
    congr 2
    ring
  | top => exact absurd rfl h

/-- A finite sum of real numbers taken among the extended reals. -/
theorem sum_coe {ι : Type*} (s : Finset ι) (f : ι → ℝ) : ∑ x ∈ s, (f x : EReal) = ((∑ x ∈ s, f x : ℝ) : EReal) := by
  induction s using Finset.cons_induction with
  | empty => simp
  | cons a s ha ih => rw [Finset.sum_cons, Finset.sum_cons, ih, EReal.coe_add]

/-- The sum of the shifted exponentials is the sum of the weights times one factor. -/
theorem sum_exp {ι : Type*} [Fintype ι] (f : ι → EReal) (h : ∀ x, f x ≠ ⊤) (M : ℝ) :
    ∑ x, Ideal.exp (f x - (M : EReal)) = ((Real.exp (-M) * ∑ x, E (f x) : ℝ) : EReal) := by
  rw [Finset.mul_sum, ← sum_coe]
  exact Finset.sum_congr rfl fun x _ => exp_sub _ (h x) M

/-- The same with a real value at each place. -/
theorem sum_mul_exp {ι : Type*} [Fintype ι] (v : ι → ℝ) (f : ι → EReal) (h : ∀ x, f x ≠ ⊤) (M : ℝ) :
    ∑ x, (v x : EReal) * Ideal.exp (f x - (M : EReal)) = ((Real.exp (-M) * ∑ x, v x * E (f x) : ℝ) : EReal) := by
  rw [Finset.mul_sum, ← sum_coe]
  refine Finset.sum_congr rfl fun x _ => ?_
  rw [exp_sub _ (h x) M, ← EReal.coe_mul]
  congr 1
  ring

/-- An extended real that is no infinity is a real number. -/
theorem real_of {x : EReal} (h : x ≠ ⊤) (h' : x ≠ ⊥) : ∃ M : ℝ, x = (M : EReal) :=
  ⟨x.toReal, (EReal.coe_toReal h h').symm⟩

/-- The greatest of scores none of which is plus infinity is not plus infinity. -/
theorem fold_ne_top {n : ℕ} (f : Fin n → EReal) (h : ∀ x, f x ≠ ⊤) : Finset.univ.fold max (⊥ : EReal) f ≠ ⊤ := by
  refine ne_of_lt (Finset.fold_max_lt ⊤ |>.mpr ⟨bot_lt_top, fun x _ => lt_of_le_of_ne le_top (h x)⟩)

/-- The greatest of scores one of which is real is not minus infinity. -/
theorem fold_ne_bot {n : ℕ} (f : Fin n → EReal) (x : Fin n) (h : f x ≠ ⊥) : Finset.univ.fold max (⊥ : EReal) f ≠ ⊥ :=
  fun h' => h (le_bot_iff.mp (h' ▸ (Finset.le_fold_max (f x)).mpr (Or.inr ⟨x, Finset.mem_univ x, le_rfl⟩)))

/-- The greatest of scores below plus infinity, one of them real, is real. -/
theorem fold_real {n : ℕ} (f : Fin n → EReal) (h : ∀ x, f x ≠ ⊤) (x : Fin n) (hx : f x ≠ ⊥) :
    ∃ M : ℝ, Finset.univ.fold max (⊥ : EReal) f = (M : EReal) :=
  real_of (fold_ne_top f h) (fold_ne_bot f x hx)

/-- The greater of a real number and a score below plus infinity is real. -/
theorem max_real (M : ℝ) (y : EReal) (h : y ≠ ⊤) : ∃ M' : ℝ, max (M : EReal) y = (M' : EReal) := by
  induction y using EReal.rec with
  | bot => exact ⟨M, by simp⟩
  | coe r => exact ⟨max M r, (EReal.coe_strictMono.monotone.map_max).symm⟩
  | top => exact absurd rfl h

/-- The reciprocal of a real number that is not zero. -/
theorem div_coe (a b : ℝ) (h : b ≠ 0) : Ideal.div (a : EReal) (b : EReal) = ((a / b : ℝ) : EReal) := by
  have hb : (b : EReal) ≠ 0 := by simpa using h
  rw [Ideal.div, if_neg hb, ← EReal.coe_inv, ← EReal.coe_mul, div_eq_mul_inv]

/-- The bit pattern of minus infinity. -/
theorem ofBits_bot : Ideal.ofBits .f32 0xFF800000#32 = ⊥ := by simp [Ideal.ofBits, Ideal.ieee]

/-- A choice by a signed comparison of two small numbers. -/
theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  unfold Scalar.select
  refine if_congr ?_ rfl rfl
  rw [show (1 : BitVec 1) = 1#1 from rfl, IntOp.cmpi_sle, WordArith.toInt_ofNat_small _ ha, WordArith.toInt_ofNat_small _ hb]
  exact Int.ofNat_le

/-- A softmax over scores below plus infinity, one of them real, weighted with real values: the quotient of the
    weighted sum by the sum of the weights. -/
theorem softmax_apply {n : ℕ} (v : Fin n → ℝ) (f : Fin n → EReal) (h : ∀ x, f x ≠ ⊤) (x0 : Fin n) (hx0 : f x0 ≠ ⊥) :
    ∑ x, Ideal.div (Ideal.exp (f x - max ⊥ (Finset.univ.fold max (⊥ : EReal) f)))
        (∑ y, Ideal.exp (f y - max ⊥ (Finset.univ.fold max (⊥ : EReal) f))) * (v x : EReal)
      = (((∑ x, v x * E (f x)) / ∑ x, E (f x) : ℝ) : EReal) := by
  obtain ⟨M, hM⟩ := fold_real f h x0 hx0
  have hpos : 0 < ∑ x, E (f x) := by
    refine Finset.sum_pos' (fun x _ => E_nonneg _ (h x)) ⟨x0, Finset.mem_univ _, ?_⟩
    obtain ⟨r, hr⟩ := real_of (h x0) hx0
    rw [hr, E_coe]
    exact Real.exp_pos r
  have hne : Real.exp (-M) * ∑ x, E (f x) ≠ 0 := (mul_pos (Real.exp_pos _) hpos).ne'
  rw [max_eq_right bot_le, hM, sum_exp f h M, Finset.sum_div, ← sum_coe]
  refine Finset.sum_congr rfl fun x _ => ?_
  rw [exp_sub _ (h x), div_coe _ _ hne, ← EReal.coe_mul]
  congr 1
  have := (Real.exp_pos (-M)).ne'
  field_simp

end Cert.Soft

end
-- ==== Proof.Attn.Steps.lean ====
/- The attention kernel's steps over tiles of keys, column by column: at every moment the running maximum is
   a real number M, and the running sum and accumulator are the sums of the weights of the keys met so far,
   times exp(-M). The reciprocal at the end cancels the factor. -/
module

public import proofs.«01_k».proof.Proof.Attn.Block
public import proofs.«01_k».proof.Proof.Attn.Softmax
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.ShloMosaic.Tactic Idealize.SL.Sem
open Cert.Soft

/-- Column `c` of a state has met keys whose weights sum to `Z`, and to `N d` with the values' row `d`. -/
def Inv (s : St Ideal) (c : Fin 512) (Z : ℝ) (N : Fin 64 → ℝ) : Prop :=
  ∃ M : ℝ, s.1 (ix2 0 c) = (M : EReal) ∧ s.2.1 (ix2 0 c) = ((Real.exp (-M) * Z : ℝ) : EReal)
    ∧ ∀ d, s.2.2 (ix2 d c) = ((Real.exp (-M) * N d : ℝ) : EReal)

/-- Equal sums may be put in place. -/
theorem Inv.congr {s : St Ideal} {c : Fin 512} {Z Z' : ℝ} {N N' : Fin 64 → ℝ} (h : Inv s c Z N) (hZ : Z = Z') (hN : ∀ d, N d = N' d) : Inv s c Z' N' := by
  rw [← hZ, ← show N = N' from funext hN]
  exact h

/-- The mask's named constant is minus infinity. -/
theorem mask_bot : (Named.named κ "mask" 0xF149F2CA#32 : Ideal .f32) = (⊥ : EReal) := rfl

/-- Rescaling by the exponential of a difference of two maxima. -/
theorem rescale (M M' a : ℝ) : Ideal.exp ((M : EReal) - (M' : EReal)) * ((Real.exp (-M) * a : ℝ) : EReal) = ((Real.exp (-M') * a : ℝ) : EReal) := by
  rw [exp_sub _ (EReal.coe_ne_top M), ← EReal.coe_mul, E_coe]
  congr 1
  have : Real.exp M * Real.exp (-M) = 1 := by rw [← Real.exp_add]; simp
  linear_combination (Real.exp (-M') * a) * this

variable (v1 : FVec Ideal S128x512 .bf16) (A B : Vec Ideal S1x1x512x128 .bf16) (C D : Vec Ideal S1x1x1x64x512 .bf16) (s : St Ideal) (c : Fin 512)

/-- A pair of tiles adds the weights of its two tiles' keys. -/
theorem pairStep_inv (sa sb : Fin 512 → ℝ) (va vb : Fin 64 → Fin 512 → ℝ)
    (hA : ∀ x, ∑ e : Fin 128, A (ix4 0 0 x e) * v1 (ix2 e c) = (sa x : EReal)) (hB : ∀ x, ∑ e : Fin 128, B (ix4 0 0 x e) * v1 (ix2 e c) = (sb x : EReal))
    (hC : ∀ d x, C (ix5 0 0 0 d x) = (va d x : EReal)) (hD : ∀ d x, D (ix5 0 0 0 d x) = (vb d x : EReal))
    (Z : ℝ) (N : Fin 64 → ℝ) (h : Inv s c Z N) :
    Inv (pairStep v1 A B C D s) c (Z + ((∑ x, Real.exp (sa x)) + ∑ x, Real.exp (sb x)))
      (fun d => N d + ((∑ x, va d x * Real.exp (sa x)) + ∑ x, vb d x * Real.exp (sb x))) := by
  obtain ⟨M, h1, h2, h3⟩ := h
  have hm : ∃ M' : ℝ, k0_pay12 v1 A B s.1 (ix2 0 c) = (M' : EReal) := by
    pointwise [k0_pay12, k0_pay10]
    rw [h1, ofBits_bot]
    refine max_real M _ (fold_ne_top _ fun x => ?_)
    split <;> simp [hA, hB]
  obtain ⟨M', hM⟩ := hm
  refine ⟨M', ?_, ?_, fun d => ?_⟩
  · pointwise [pairStep, k0_pay4]
    exact hM
  · pointwise [pairStep, k0_pay2, k0_pay13, k0_pay14, k0_pay10]
    rw [hM, h1, h2, rescale]
    simp only [hA, hB]
    rw [sum_exp _ (fun _ => EReal.coe_ne_top _), sum_exp _ (fun _ => EReal.coe_ne_top _), ← EReal.coe_add, ← EReal.coe_add]
    simp only [E_coe]
    congr 1
    ring
  · pointwise [pairStep, k0_pay3, k0_pay11, k0_pay13, k0_pay14, k0_pay10]
    rw [hM, h1, h3, rescale]
    simp only [hA, hB, hC, hD]
    rw [sum_mul_exp _ _ (fun _ => EReal.coe_ne_top _), sum_mul_exp _ _ (fun _ => EReal.coe_ne_top _), ← EReal.coe_add, ← EReal.coe_add]
    simp only [E_coe]
    congr 1
    ring

/-- One tile adds the weights of its keys. -/
theorem oneStep_inv (sa : Fin 512 → ℝ) (va : Fin 64 → Fin 512 → ℝ)
    (hA : ∀ x, ∑ e : Fin 128, A (ix4 0 0 x e) * v1 (ix2 e c) = (sa x : EReal))
    (hC : ∀ d x, C (ix5 0 0 0 d x) = (va d x : EReal))
    (Z : ℝ) (N : Fin 64 → ℝ) (h : Inv s c Z N) :
    Inv (oneStep v1 A C s) c (Z + ∑ x, Real.exp (sa x)) (fun d => N d + ∑ x, va d x * Real.exp (sa x)) := by
  obtain ⟨M, h1, h2, h3⟩ := h
  have hs : ∀ x, k0_pay20 v1 A (ix2 x c) = (sa x : EReal) := fun x => by
    rw [← hA]
    pointwise [k0_pay20]
  have hm : ∃ M' : ℝ, k0_pay21 v1 A s.1 (ix2 0 c) = (M' : EReal) := by
    pointwise [k0_pay21]
    rw [h1, ofBits_bot]
    refine max_real M _ (fold_ne_top _ fun x => ?_)
    rw [hs]
    exact EReal.coe_ne_top _
  obtain ⟨M', hM⟩ := hm
  refine ⟨M', ?_, ?_, fun d => ?_⟩
  · pointwise [oneStep, k0_pay8]
    exact hM
  · pointwise [oneStep, k0_pay24, k0_pay22, k0_pay23]
    rw [hM, h1, h2, rescale]
    simp only [hs]
    rw [sum_exp _ (fun _ => EReal.coe_ne_top _), ← EReal.coe_add]
    simp only [E_coe]
    congr 1
    ring
  · pointwise [oneStep, k0_pay25, k0_pay22, k0_pay23]
    rw [hM, h1, h3, rescale]
    simp only [hs, hC]
    rw [sum_mul_exp _ _ (fun _ => EReal.coe_ne_top _), ← EReal.coe_add]
    simp only [E_coe]
    congr 1
    ring

/-- Row `x` of the tile on the diagonal counts for column `c` when it is not after it. -/
theorem mask_row (x c : Fin 512) (a b : EReal) :
    Scalar.select (IntOp.cmpi .sle (BitVec.ofNat 32 x.val) (IntOp.andi (BitVec.ofNat 32 c.val) 511#32)) a b = if x ≤ c then a else b := by
  have h : IntOp.andi (BitVec.ofNat 32 c.val) 511#32 = BitVec.ofNat 32 c.val := by
    apply BitVec.eq_of_toNat_eq
    have := Nat.and_two_pow_sub_one_eq_mod c.val 9
    simp only [IntOp.andi, BitVec.toNat_and, BitVec.toNat_ofNat]
    have hc := c.isLt
    norm_num at this ⊢
    rw [Nat.mod_eq_of_lt (by omega : c.val < 4294967296), this]
    omega
  rw [h, select_sle _ _ (by omega) (by omega)]
  rfl

/-- The masked tile on the diagonal: the weights of the rows up to the column's own. -/
theorem firstStep_inv (x0 : Vec Ideal S1x1x1x128x512 .bf16) (sa : Fin 512 → ℝ) (va : Fin 64 → Fin 512 → ℝ)
    (hA : ∀ x, ∑ e : Fin 128, A (ix4 0 0 x e) * x0 (ix5 0 0 0 e c) = (sa x : EReal))
    (hC : ∀ d x, C (ix5 0 0 0 d x) = (va d x : EReal)) :
    Inv (firstStep x0 A C) c (∑ x, if x ≤ c then Real.exp (sa x) else 0) (fun d => ∑ x, va d x * if x ≤ c then Real.exp (sa x) else 0) := by
  have hs : ∀ x, k0_pay27 x0 A (ix2 x c) = if x ≤ c then (sa x : EReal) else ⊥ := fun x => by
    pointwise [k0_pay27, k0_pay26]
    rw [hA, mask_bot, mask_row]
  have ht : ∀ x, (if x ≤ c then (sa x : EReal) else ⊥) ≠ ⊤ := fun x => by split <;> simp
  have he : ∀ x, E (if x ≤ c then (sa x : EReal) else ⊥) = if x ≤ c then Real.exp (sa x) else 0 := fun x => by split <;> simp
  have hm : ∃ M' : ℝ, k0_pay29 x0 A (ix2 0 c) = (M' : EReal) := by
    pointwise [k0_pay29]
    rw [ofBits_bot]
    simp only [hs]
    exact fold_real _ ht 0 (by simp)
  obtain ⟨M', hM⟩ := hm
  refine ⟨M', ?_, ?_, fun d => ?_⟩
  · pointwise [firstStep, k0_pay31]
    exact hM
  · pointwise [firstStep, k0_pay32, k0_pay30]
    rw [hM]
    simp only [hs]
    rw [sum_exp _ ht]
    simp only [he]
  · pointwise [firstStep, k0_pay1, k0_pay28, k0_pay33, k0_pay30]
    rw [hM]
    simp only [hs, hC]
    rw [sum_mul_exp _ _ ht]
    simp only [he]

/-- What the block receives: the quotient of the two sums. -/
theorem pay9_inv (Z : ℝ) (N : Fin 64 → ℝ) (h : Inv s c Z N) (hZ : Z ≠ 0) (d : Fin 64) :
    k0_pay9 s.2.2 s.2.1 (ix5 0 0 0 d c) = ((N d / Z : ℝ) : EReal) := by
  obtain ⟨M, h1, h2, h3⟩ := h
  have he := (Real.exp_pos (-M)).ne'
  pointwise [k0_pay9]
  rw [h2, h3, ← EReal.coe_one, div_coe _ _ (mul_ne_zero he hZ), ← EReal.coe_mul]
  congr 1
  field_simp

end Cert.KernelIdeal.Attn

end
-- ==== Proof.Attn.Column.lean ====
/- One column of one grid point's block: the tiles of keys the point reads are those up to its own, and what it
   leaves is the causal softmax of the column's scores over all the keys, applied to the values. -/
module

public import proofs.«01_k».proof.Proof.Attn.Steps

@[expose] public section

set_option maxRecDepth 16384

noncomputable section

namespace Cert.KernelIdeal.Attn

open Cert.KernelIdeal Cert.KernelIdeal.Gen Idealize.ShloMosaic Idealize.ShloMosaic.TcCoe Idealize.ShloMosaic.Tactic Idealize.SL.Sem
open Cert.Soft

/-- The query tile of a grid point. -/
abbrev qt (t : Fin grid0.N) : ℕ := (grid0.coords t 2).val

theorem qt_lt (t : Fin grid0.N) : qt t < 8 := (grid0.coords t 2).isLt

/-- The loop makes half as many trips as there are tiles before the query tile. -/
theorem trips_eq : ∀ t : Fin grid0.N, (k0_t1_loop (grid0.coords t)).trips = qt t / 2 := by decide +kernel

/-- The tile of keys on the diagonal. -/
theorem off1_eq : ∀ t : Fin grid0.N, k0_off1 (grid0.coords t) = ![0, 0, 512 * qt t, 0] := by decide +kernel

/-- The tile of values on the diagonal. -/
theorem off2_eq : ∀ t : Fin grid0.N, k0_off2 (grid0.coords t) = ![0, 0, qt t, 0, 0] := by decide +kernel

/-- The tiles trip `k` reads. -/
theorem off3_eq : ∀ (t : Fin grid0.N) (k : Fin (k0_t1_loop (grid0.coords t)).trips), k0_off3 (grid0.coords t) k = ![0, 0, 512 * (2 * k.val), 0] := by decide +kernel
theorem off4_eq : ∀ (t : Fin grid0.N) (k : Fin (k0_t1_loop (grid0.coords t)).trips), k0_off4 (grid0.coords t) k = ![0, 0, 2 * k.val, 0, 0] := by decide +kernel
theorem off5_eq : ∀ (t : Fin grid0.N) (k : Fin (k0_t1_loop (grid0.coords t)).trips), k0_off5 (grid0.coords t) k = ![0, 0, 512 * (2 * k.val + 1), 0] := by decide +kernel
theorem off6_eq : ∀ (t : Fin grid0.N) (k : Fin (k0_t1_loop (grid0.coords t)).trips), k0_off6 (grid0.coords t) k = ![0, 0, 2 * k.val + 1, 0, 0] := by decide +kernel

/-- The tile before the diagonal, read when the query tile is odd. -/
theorem off11_eq : ∀ t : Fin grid0.N, qt t % 2 = 1 → k0_off11 (grid0.coords t) = ![0, 0, 512 * (qt t - 1), 0] := by decide +kernel
theorem off12_eq : ∀ t : Fin grid0.N, qt t % 2 = 1 → k0_off12 (grid0.coords t) = ![0, 0, qt t - 1, 0, 0] := by decide +kernel

/-- A tile of keys read from the keys' block. -/
theorem ld_keys (x1 : Vec Ideal S1x1x4096x128 .bf16) (off : Fin 4 → ℕ) (inb : ∀ a, off a + S1x1x512x128.size a ≤ S1x1x4096x128.size a)
    (n : ℕ) (h : off = ![0, 0, n, 0]) (x : Fin 512) (e : Fin 128) :
    ∃ hk : n + x.val < 4096, View.ld x1 (Rect.unit (s := S1x1x4096x128) off S1x1x512x128.size inb) (ix4 0 0 x e) = x1 (ix4 0 0 ⟨n + x.val, hk⟩ e) := by
  subst h
  have hn : n + 512 ≤ 4096 := inb 2
  refine ⟨by omega, ?_⟩
  pointwise []

/-- A tile of values read from the values' block. -/
theorem ld_vals (x2 : Vec Ideal S1x1x8x64x512 .bf16) (off : Fin 5 → ℕ) (inb : ∀ a, off a + S1x1x1x64x512.size a ≤ S1x1x8x64x512.size a)
    (n : ℕ) (h : off = ![0, 0, n, 0, 0]) (d : Fin 64) (x : Fin 512) :
    ∃ hk : n < 8, View.ld x2 (Rect.unit (s := S1x1x8x64x512) off S1x1x1x64x512.size inb) (ix5 0 0 0 d x) = x2 (ix5 0 0 ⟨n, hk⟩ d x) := by
  subst h
  have hn : n + 1 ≤ 8 := inb 2
  refine ⟨by omega, ?_⟩
  pointwise []

section
variable (t : Fin grid0.N) (c : Fin 512) (x0 : Vec Ideal S1x1x1x128x512 .bf16) (x1 : Vec Ideal S1x1x4096x128 .bf16) (x2 : Vec Ideal S1x1x8x64x512 .bf16)
  (K : ℕ → ℝ) (U : Fin 64 → ℕ → ℝ)

/-- The blocks hold the column's scores `K` and the values `U`. -/
structure Holds : Prop where
  /-- The product of a row of keys with the column of queries is the score. -/
  score : ∀ (k : ℕ) (hk : k < 4096), ∑ e : Fin 128, x1 (ix4 0 0 ⟨k, hk⟩ e) * x0 (ix5 0 0 0 e c) = (K k : EReal)
  /-- The values' tiles in order. -/
  value : ∀ (j : ℕ) (hj : j < 8) (d : Fin 64) (r : Fin 512), x2 (ix5 0 0 ⟨j, hj⟩ d r) = (U d (512 * j + r.val) : EReal)

/-- What tile `j` adds to a sum with the factors `f`. -/
def T (f : ℕ → ℝ) (j : ℕ) : ℝ := ∑ r : Fin 512, f (512 * j + r.val) * Real.exp (K (512 * j + r.val))

/-- What the masked tile `j` adds for column `c`. -/
def Tm (f : ℕ → ℝ) (j : ℕ) : ℝ := ∑ r : Fin 512, f (512 * j + r.val) * if r ≤ c then Real.exp (K (512 * j + r.val)) else 0

variable {t c x0 x1 x2 K U} (H : Holds c x0 x1 x2 K U)
include H

theorem keys_at (off : Fin 4 → ℕ) (inb : ∀ a, off a + S1x1x512x128.size a ≤ S1x1x4096x128.size a)
    (n : ℕ) (h : off = ![0, 0, n, 0]) (x : Fin 512) :
    ∑ e : Fin 128, View.ld x1 (Rect.unit (s := S1x1x4096x128) off S1x1x512x128.size inb) (ix4 0 0 x e) * x0 (ix5 0 0 0 e c) = (K (n + x.val) : EReal) := by
  obtain ⟨hk, -⟩ := ld_keys x1 off inb n h x 0
  rw [← H.score _ hk]
  exact Finset.sum_congr rfl fun e _ => by rw [(ld_keys x1 off inb n h x e).2]

theorem keys_at' (off : Fin 4 → ℕ) (inb : ∀ a, off a + S1x1x512x128.size a ≤ S1x1x4096x128.size a)
    (n : ℕ) (h : off = ![0, 0, n, 0]) (x : Fin 512) :
    ∑ e : Fin 128, View.ld x1 (Rect.unit (s := S1x1x4096x128) off S1x1x512x128.size inb) (ix4 0 0 x e) * k0_pay26 x0 (ix2 e c) = (K (n + x.val) : EReal) := by
  rw [← keys_at H off inb n h x]
  refine Finset.sum_congr rfl fun e _ => congrArg _ ?_
  pointwise [k0_pay26]

theorem vals_at (off : Fin 5 → ℕ) (inb : ∀ a, off a + S1x1x1x64x512.size a ≤ S1x1x8x64x512.size a)
    (n : ℕ) (h : off = ![0, 0, n, 0, 0]) (d : Fin 64) (x : Fin 512) :
    View.ld x2 (Rect.unit (s := S1x1x8x64x512) off S1x1x1x64x512.size inb) (ix5 0 0 0 d x) = (U d (512 * n + x.val) : EReal) := by
  obtain ⟨hk, e⟩ := ld_vals x2 off inb n h d x
  rw [e, H.value]

/-- After the diagonal tile. -/
theorem first_inv : Inv (firstStep x0 (kDiag (grid0.coords t) x1) (vDiag (grid0.coords t) x2)) c (Tm c K (fun _ => 1) (qt t)) (fun d => Tm c K (U d) (qt t)) := by
  have := firstStep_inv (kDiag (grid0.coords t) x1) (vDiag (grid0.coords t) x2) c x0 _ _
    (keys_at H _ _ _ (off1_eq t)) (vals_at H _ _ _ (off2_eq t))
  simpa only [Tm, one_mul] using this

/-- After `n` trips. -/
theorem pairs_inv (s : St Ideal) (Z : ℝ) (N : Fin 64 → ℝ) (h : Inv s c Z N) (n : ℕ) (hn : n ≤ qt t / 2) :
    Inv (pairs (grid0.coords t) (k0_pay26 x0) x1 x2 s n) c (Z + ∑ j ∈ Finset.range (2 * n), T K (fun _ => 1) j)
      (fun d => N d + ∑ j ∈ Finset.range (2 * n), T K (U d) j) := by
  induction n with
  | zero => simpa [pairs] using h
  | succ n ih =>
    have hk : n < (k0_t1_loop (grid0.coords t)).trips := by rw [trips_eq]; omega
    have := pairStep_inv (k0_pay26 x0) _ _ _ _ _ c _ _ _ _
      (keys_at' H _ (k0_off3_inb (grid0.coords t) ⟨n, hk⟩) _ (off3_eq t ⟨n, hk⟩)) (keys_at' H _ (k0_off5_inb (grid0.coords t) ⟨n, hk⟩) _ (off5_eq t ⟨n, hk⟩))
      (vals_at H _ (k0_off4_inb (grid0.coords t) ⟨n, hk⟩) _ (off4_eq t ⟨n, hk⟩)) (vals_at H _ (k0_off6_inb (grid0.coords t) ⟨n, hk⟩) _ (off6_eq t ⟨n, hk⟩))
      _ _ (ih (by omega))
    have hr : ∀ f, ∑ j ∈ Finset.range (2 * (n + 1)), T K f j = ∑ j ∈ Finset.range (2 * n), T K f j + (T K f (2 * n) + T K f (2 * n + 1)) := fun f => by
      rw [show 2 * (n + 1) = 2 * n + 1 + 1 by ring, Finset.sum_range_succ, Finset.sum_range_succ, add_assoc]
    rw [pairs, dif_pos hk]
    refine this.congr ?_ fun d => ?_
    · rw [hr]
      simp only [T, one_mul, add_assoc]
    · rw [hr]
      simp only [T, add_assoc]

/-- After all the trips: the tiles of the pairs, and the diagonal one. -/
theorem afterPairs_inv : Inv (afterPairs (grid0.coords t) x0 x1 x2) c (Tm c K (fun _ => 1) (qt t) + ∑ j ∈ Finset.range (2 * (qt t / 2)), T K (fun _ => 1) j)
    (fun d => Tm c K (U d) (qt t) + ∑ j ∈ Finset.range (2 * (qt t / 2)), T K (U d) j) := by
  have := pairs_inv (t := t) H _ _ _ (first_inv (t := t) H) _ le_rfl
  rwa [← trips_eq] at this ⊢

/-- With an even query tile: all the tiles up to it. -/
theorem even_inv (h : qt t % 2 ≠ 1) : Inv (afterPairs (grid0.coords t) x0 x1 x2) c (∑ j ∈ Finset.range (qt t), T K (fun _ => 1) j + Tm c K (fun _ => 1) (qt t))
    (fun d => ∑ j ∈ Finset.range (qt t), T K (U d) j + Tm c K (U d) (qt t)) := by
  have := afterPairs_inv (t := t) H
  rw [show 2 * (qt t / 2) = qt t by omega] at this
  exact this.congr (add_comm _ _) fun d => add_comm _ _

/-- With an odd query tile: all the tiles up to it, after the last step. -/
theorem odd_inv (h : qt t % 2 = 1) (hc : cond0_0 (grid0.coords t)) :
    Inv (oneStep (k0_pay26 x0) (kLast (grid0.coords t) hc x1) (vLast (grid0.coords t) hc x2) (afterPairs (grid0.coords t) x0 x1 x2)) c
      (∑ j ∈ Finset.range (qt t), T K (fun _ => 1) j + Tm c K (fun _ => 1) (qt t))
      (fun d => ∑ j ∈ Finset.range (qt t), T K (U d) j + Tm c K (U d) (qt t)) := by
  have := oneStep_inv (k0_pay26 x0) (kLast (grid0.coords t) hc x1) (vLast (grid0.coords t) hc x2) _ c _ _
    (keys_at' H _ _ _ (off11_eq t h)) (vals_at H _ _ _ (off12_eq t h)) _ _ (afterPairs_inv (t := t) H)
  have e : qt t = 2 * (qt t / 2) + 1 := by omega
  have e' : qt t - 1 = 2 * (qt t / 2) := by omega
  have hr : ∀ f, ∑ j ∈ Finset.range (qt t), T K f j = ∑ j ∈ Finset.range (2 * (qt t / 2)), T K f j + T K f (2 * (qt t / 2)) := fun f => by
    conv_lhs => rw [e]
    rw [Finset.sum_range_succ]
  simp only [hr]
  rw [e'] at this
  refine this.congr ?_ fun d => ?_
  · simp only [T, one_mul]
    ring
  · simp only [T]
    ring

end

end Cert.KernelIdeal.Attn

end
-- ==== Proof.Attn.Host.lean ====
/- What the host prepares for the attention kernel, and where each grid point's blocks lie in it: the queries
   scaled, padded with zeros and cut into tiles, the keys with their shared rotary part and padded alike, the
   values cut into tiles. -/
module

public import proofs.«01_k».proof.Proof.Attn.Column
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.ShloMosaic.Tactic Idealize.SL.Sem
open Cert.Soft

variable (m : (ℓ : Loc nD τ sig) → Buf (Elt Ideal) ℓ)

/-- Where each window's block sits. -/
theorem idx : ∀ t : Fin cfg0.N, win0_0.index t = ![(grid0.coords t 0).val, (grid0.coords t 1).val, (grid0.coords t 2).val, 0, 0]
    ∧ win0_1.index t = ![(grid0.coords t 0).val, (grid0.coords t 1).val, 0, 0]
    ∧ win0_2.index t = ![(grid0.coords t 0).val, (grid0.coords t 1).val, 0, 0, 0]
    ∧ win0_3.index t = ![(grid0.coords t 0).val, (grid0.coords t 1).val, (grid0.coords t 2).val, 0, 0] :=
  (by decide +kernel : ∀ t : Fin grid0.N, _)

/-- The place of the query block of a point. -/
theorem emb0 (t : Fin cfg0.N) (b : Fin 4) (h i : Fin 8) (hb : (grid0.coords t 0).val = b.val) (hh : (grid0.coords t 1).val = h.val) (hi : (grid0.coords t 2).val = i.val) (e : Fin 128) (r : Fin 512) :
    ((cfg0.win 0).blk t).view.emb (ix5 0 0 0 e r) = ix5 b h i e r := by
  have h0 := (idx t).1
  blk_ext [h0, hb, hh, hi]

/-- The place of the block of keys. -/
theorem emb1 (t : Fin cfg0.N) (b : Fin 4) (h : Fin 8) (hb : (grid0.coords t 0).val = b.val) (hh : (grid0.coords t 1).val = h.val) (k : Fin 4096) (e : Fin 128) :
    ((cfg0.win 1).blk t).view.emb (ix4 0 0 k e) = ix4 b h k e := by
  have h0 := (idx t).2.1
  blk_ext [h0, hb, hh]

/-- The place of the block of values. -/
theorem emb2 (t : Fin cfg0.N) (b : Fin 4) (h : Fin 8) (hb : (grid0.coords t 0).val = b.val) (hh : (grid0.coords t 1).val = h.val) (j : Fin 8) (d : Fin 64) (r : Fin 512) :
    ((cfg0.win 2).blk t).view.emb (ix5 0 0 j d r) = ix5 b h j d r := by
  have h0 := (idx t).2.2.1
  blk_ext [h0, hb, hh]

/-- The place of the result's block. -/
theorem emb3 (t : Fin cfg0.N) (b : Fin 4) (h i : Fin 8) (hb : (grid0.coords t 0).val = b.val) (hh : (grid0.coords t 1).val = h.val) (hi : (grid0.coords t 2).val = i.val) (d : Fin 64) (r : Fin 512) :
    ((cfg0.win 3).blk t).view.emb (ix5 0 0 0 d r) = ix5 b h i d r := by
  have h0 := (idx t).2.2.2
  blk_ext [h0, hb, hh, hi]

/-- The result of a concatenation of three buffers, each operand at its own buffer. -/
theorem three_result {F : FTy → Type} {x a b y : Ref sig .tc} (f : ((k : Fin 3) → ((![x, a, b] : Fin 3 → Ref sig .tc) k).ty.Contents (Elt F)) → y.ty.Contents (Elt F)) (hxs hy)
    (W : Valuation τ sig (Elt F)) :
    (StableHlo.nary (τ := τ) ![x, a, b] y f hxs hy).result W (no_index (Proc.devRef .tc y))
      = f (Fin.cons (W (Proc.devRef .tc x)) (Fin.cons (W (Proc.devRef .tc a)) (Fin.cons (W (Proc.devRef .tc b)) (fun i => i.elim0)))) := by
  rw [StableHlo.nary_result]
  congr 1
  funext k
  fin_cases k <;> rfl

/-- The queries as the host lays them out. -/
def qHost (A0 : FVec Ideal S4x4096x8x96 .f32) : FVec Ideal S4x8x8x128x512 .bf16 :=
  transpose S4x8x8x128x512 [0, 3, 1, 4, 2] (shapeCast S4x8x512x8x128 (truncf .bf16 (mulf (concatenate S4x4096x8x128 3
    [⟨S4x4096x8x96, A0⟩, ⟨S4x4096x8x32, broadcastInDim S4x4096x8x32 ![] bcast_S_S4x4096x8x32 (constant (F := Ideal) S_ .f32 0x00000000#32)⟩]
    concatenates_S4x4096x8x96_S4x4096x8x32_S4x4096x8x128_d3) (broadcastInDim S4x4096x8x128 ![] bcast_S_S4x4096x8x128 (constant (F := Ideal) S_ .f32 0x3DD105EC#32)))
    bitsLt_bf16_f32) shapeCasts_S4x4096x8x128_S4x8x512x8x128) transposes_S4x8x512x8x128_S4x8x8x128x512_0_3_1_4_2

/-- The keys as the host lays them out. -/
def kHost (A1 : FVec Ideal S4x4096x8x128 .f32) (A2 : FVec Ideal S4x4096x32 .f32) : FVec Ideal S4x8x4096x128 .bf16 :=
  transpose S4x8x4096x128 [0, 2, 1, 3] (truncf .bf16 (concatenate S4x4096x8x128 3
    [⟨S4x4096x8x64, extractStridedSlice S4x4096x8x64 ![0, 0, 0, 0] A1 slices_S4x4096x8x128_S4x4096x8x64_0_0_0_0⟩,
     ⟨S4x4096x8x32, broadcastInDim S4x4096x8x32 ![0, 1, 2, 3] bcast_S4x4096x1x32_S4x4096x8x32_0_1_2_3 (broadcastInDim S4x4096x1x32 ![0, 1, 3] bcast_S4x4096x32_S4x4096x1x32_0_1_3 A2)⟩,
     ⟨S4x4096x8x32, broadcastInDim S4x4096x8x32 ![] bcast_S_S4x4096x8x32 (constant (F := Ideal) S_ .f32 0x00000000#32)⟩]
    concatenates_S4x4096x8x64_S4x4096x8x32_S4x4096x8x32_S4x4096x8x128_d3) bitsLt_bf16_f32) transposes_S4x4096x8x128_S4x8x4096x128_0_2_1_3

/-- The values as the host lays them out. -/
def vHost (A1 : FVec Ideal S4x4096x8x128 .f32) : FVec Ideal S4x8x8x64x512 .bf16 :=
  transpose S4x8x8x64x512 [0, 3, 1, 4, 2] (shapeCast S4x8x512x8x64 (truncf .bf16 (extractStridedSlice S4x4096x8x64 ![0, 0, 0, 64] A1 slices_S4x4096x8x128_S4x4096x8x64_0_0_0_64)
    bitsLt_bf16_f32) shapeCasts_S4x4096x8x64_S4x8x512x8x64) transposes_S4x8x512x8x64_S4x8x8x64x512_0_3_1_4_2

section
open StableHlo

/-- The region finds the queries so laid out. -/
theorem V_q (c : Dev nD) : V m c (Pipeline.arrRef spec0 0) = qHost (m ((c : Thread nD τ).loc main_arg0)) := by
  show StableHlo.after hostOps0 _ (Proc.devRef .tc main_v6) = _
  simp (disch := decide) only [after_cons, after_nil, nullary_result', unary_result', binary_result', three_result, reshape_result',
    nullary_result_ne', unary_result_ne', binary_result_ne', reshape_result_ne', nary_result_ne']
  rfl

/-- The region finds the keys so laid out. -/
theorem V_k (c : Dev nD) : V m c (Pipeline.arrRef spec0 1) = kHost (m ((c : Thread nD τ).loc main_arg1)) (m ((c : Thread nD τ).loc main_arg2)) := by
  show StableHlo.after hostOps0 _ (Proc.devRef .tc main_v13) = _
  simp (disch := decide) only [after_cons, after_nil, nullary_result', unary_result', binary_result', three_result, reshape_result',
    nullary_result_ne', unary_result_ne', binary_result_ne', reshape_result_ne', nary_result_ne']
  rfl

/-- The region finds the values so laid out. -/
theorem V_v (c : Dev nD) : V m c (Pipeline.arrRef spec0 2) = vHost (m ((c : Thread nD τ).loc main_arg1)) := by
  show StableHlo.after hostOps0 _ (Proc.devRef .tc main_v17) = _
  simp (disch := decide) only [after_cons, after_nil, nullary_result', unary_result', binary_result', three_result, reshape_result',
    nullary_result_ne', unary_result_ne', binary_result_ne', reshape_result_ne', nary_result_ne']
  rfl

end

/-- The same of any contents of the array. -/
theorem q_read (c : Dev nD) (t : Fin cfg0.N) (b : Fin 4) (h i : Fin 8) (hb : (grid0.coords t 0).val = b.val) (hh : (grid0.coords t 1).val = h.val) (hi : (grid0.coords t 2).val = i.val) (e : Fin 128) (r : Fin 512)
    (X : Vec Ideal S4x8x8x128x512 .bf16) (hX : V m c (Pipeline.arrRef spec0 0) = X) :
    iblk m c 0 t (ix5 0 0 0 e r) = X (ix5 b h i e r) := by
  unfold iblk
  rw [hX]
  exact congrArg X (emb0 t b h i hb hh hi e r)

/-- A query block's element. -/
theorem q_block (c : Dev nD) (t : Fin cfg0.N) (b : Fin 4) (h i : Fin 8) (hb : (grid0.coords t 0).val = b.val) (hh : (grid0.coords t 1).val = h.val) (hi : (grid0.coords t 2).val = i.val) (e : Fin 128) (r : Fin 512) :
    iblk m c 0 t (ix5 0 0 0 e r) = qHost (m ((c : Thread nD τ).loc main_arg0)) (ix5 b h i e r) :=
  q_read m c t b h i hb hh hi e r _ (V_q m c)

/-- The same of any contents of the array. -/
theorem k_read (c : Dev nD) (t : Fin cfg0.N) (b : Fin 4) (h : Fin 8) (hb : (grid0.coords t 0).val = b.val) (hh : (grid0.coords t 1).val = h.val) (k : Fin 4096) (e : Fin 128)
    (X : Vec Ideal S4x8x4096x128 .bf16) (hX : V m c (Pipeline.arrRef spec0 1) = X) :
    iblk m c 1 t (ix4 0 0 k e) = X (ix4 b h k e) := by
  unfold iblk
  rw [hX]
  exact congrArg X (emb1 t b h hb hh k e)

/-- An element of the block of keys. -/
theorem k_block (c : Dev nD) (t : Fin cfg0.N) (b : Fin 4) (h : Fin 8) (hb : (grid0.coords t 0).val = b.val) (hh : (grid0.coords t 1).val = h.val) (k : Fin 4096) (e : Fin 128) :
    iblk m c 1 t (ix4 0 0 k e) = kHost (m ((c : Thread nD τ).loc main_arg1)) (m ((c : Thread nD τ).loc main_arg2)) (ix4 b h k e) :=
  k_read m c t b h hb hh k e _ (V_k m c)

/-- The same of any contents of the array. -/
theorem v_read (c : Dev nD) (t : Fin cfg0.N) (b : Fin 4) (h : Fin 8) (hb : (grid0.coords t 0).val = b.val) (hh : (grid0.coords t 1).val = h.val) (j : Fin 8) (d : Fin 64) (r : Fin 512)
    (X : Vec Ideal S4x8x8x64x512 .bf16) (hX : V m c (Pipeline.arrRef spec0 2) = X) :
    iblk m c 2 t (ix5 0 0 j d r) = X (ix5 b h j d r) := by
  unfold iblk
  rw [hX]
  exact congrArg X (emb2 t b h hb hh j d r)

/-- An element of the block of values. -/
theorem v_block (c : Dev nD) (t : Fin cfg0.N) (b : Fin 4) (h : Fin 8) (hb : (grid0.coords t 0).val = b.val) (hh : (grid0.coords t 1).val = h.val) (j : Fin 8) (d : Fin 64) (r : Fin 512) :
    iblk m c 2 t (ix5 0 0 j d r) = vHost (m ((c : Thread nD τ).loc main_arg1)) (ix5 b h j d r) :=
  v_read m c t b h hb hh j d r _ (V_v m c)

end Cert.KernelIdeal.Attn

end
-- ==== Proof.Attn.Spec.lean ====
/- The attention of one query over the real numbers: its scores, and the quotient of the two sums over the keys
   up to it, cut into tiles of 512 keys. -/
module

public import proofs.«01_k».proof.Proof.Attn.Softmax

@[expose] public section

noncomputable section

namespace Cert.Soft

open Idealize.ShloMosaic

/-- The factor the scores are multiplied with, the literal both programs write. -/
def σ : ℝ := (Ideal.ofBits .f32 1037108716#32).toReal

theorem sigma_eq : Ideal.ofBits .f32 1037108716#32 = (σ : EReal) := by
  refine (EReal.coe_toReal ?_ ?_).symm <;> simp [Ideal.ofBits, Ideal.ieee] <;> exact ne_of_beq_false rfl

/-- A padded product of 128 terms is the product's own 64 and 32 terms. -/
theorem sum_padded (f : Fin 64 → ℝ) (g : Fin 32 → ℝ) (q : Fin 96 → ℝ) (s : ℝ) :
    ∑ e : Fin 128, (if h : e.val < 64 then f ⟨e, h⟩ else if h : e.val - 64 < 32 then g ⟨e.val - 64, h⟩ else 0) * ((if h : e.val < 96 then q ⟨e, h⟩ else 0) * s)
      = (∑ e : Fin 64, q ⟨e, by omega⟩ * f e + ∑ e : Fin 32, q ⟨64 + e, by omega⟩ * g e) * s := by
  refine (Fin.sum_univ_add (a := 64) (b := 64) _).trans ?_
  rw [add_mul, Finset.sum_mul, Finset.sum_mul]
  congr 1
  · refine Finset.sum_congr rfl fun e _ => ?_
    have h := e.isLt
    have h' : e.val < 96 := by omega
    simp only [Fin.val_castAdd, h, h', dif_pos]
    ring
  · refine (Fin.sum_univ_add (a := 32) (b := 32) _).trans ?_
    rw [show (∑ e : Fin 32, q ⟨64 + e, by omega⟩ * g e * s) = ∑ e : Fin 32, q ⟨64 + e, by omega⟩ * g e * s + 0 by rw [add_zero]]
    congr 1
    · refine Finset.sum_congr rfl fun e _ => ?_
      have h := e.isLt
      have h1 : ¬ 64 + e.val < 64 := by omega
      have h2 : 64 + e.val - 64 < 32 := by omega
      have h3 : 64 + e.val < 96 := by omega
      simp only [Fin.val_natAdd, Fin.val_castAdd, h1, h2, h3, dif_pos, dif_neg, not_false_eq_true]
      have h4 : (⟨64 + e.val - 64, h2⟩ : Fin 32) = e := Fin.ext (by simp)
      rw [h4]
      ring
    · refine Finset.sum_eq_zero fun e _ => ?_
      have h1 : ¬ 64 + (32 + e.val) < 96 := by omega
      simp only [Fin.val_natAdd, h1, dif_neg, not_false_eq_true, zero_mul, mul_zero]

/-- A sum over the first `n` tiles of 512. -/
theorem sum_tiles (f : ℕ → ℝ) : ∀ n : ℕ, ∑ k ∈ Finset.range (512 * n), f k = ∑ j ∈ Finset.range n, ∑ r : Fin 512, f (512 * j + r.val)
  | 0 => by simp
  | n + 1 => by
    rw [Finset.sum_range_succ, ← sum_tiles f n, show 512 * (n + 1) = 512 * n + 512 by ring, Finset.sum_range_add,
      Fin.sum_univ_eq_sum_range (fun r => f (512 * n + r))]

/-- A sum over all keys that counts only those up to query `512 i + c` is the tiles before tile `i` in full and
    tile `i` up to its place `c`. -/
theorem sum_causal (f w : ℕ → ℝ) (i : ℕ) (hi : i < 8) (c : Fin 512) :
    ∑ k : Fin 4096, f k.val * (if k.val ≤ 512 * i + c.val then w k.val else 0)
      = ∑ j ∈ Finset.range i, ∑ r : Fin 512, f (512 * j + r.val) * w (512 * j + r.val)
        + ∑ r : Fin 512, f (512 * i + r.val) * (if r ≤ c then w (512 * i + r.val) else 0) := by
  rw [Fin.sum_univ_eq_sum_range (fun k => f k * (if k ≤ 512 * i + c.val then w k else 0)) 4096,
    show (4096 : ℕ) = 512 * (i + 1) + 512 * (7 - i) by omega, Finset.sum_range_add, sum_tiles, Finset.sum_range_succ]
  rw [Finset.sum_eq_zero (s := Finset.range (512 * (7 - i))) fun k _ => by rw [if_neg (by omega), mul_zero], add_zero]
  congr 1
  · refine Finset.sum_congr rfl fun j hj => Finset.sum_congr rfl fun r _ => ?_
    rw [if_pos (by have := Finset.mem_range.mp hj; omega)]
  · refine Finset.sum_congr rfl fun r _ => ?_
    congr 1
    refine if_congr ?_ rfl rfl
    rw [Fin.le_def]
    omega

/-- The shapes of the queries, of the keys and values, and of the keys' shared part. -/
abbrev SQ : Shape := ⟨4, ![4, 4096, 8, 96]⟩
abbrev SKV : Shape := ⟨4, ![4, 4096, 8, 128]⟩
abbrev SPE : Shape := ⟨3, ![4, 4096, 32]⟩

/-- Every element of an array is a real number. -/
def Reals {s : Shape} (A : s.Idx → EReal) : Prop := ∀ i, A i = ((A i).toReal : EReal)

variable (A0 : SQ.Idx → EReal) (A1 : SKV.Idx → EReal) (A2 : SPE.Idx → EReal)

/-- The score of query `n` against key `k`, in batch `b` and head `h`. -/
def score (b : Fin 4) (h : Fin 8) (n k : Fin 4096) : ℝ :=
  (∑ e : Fin 64, (A0 (ix4 b n h ⟨e, by omega⟩)).toReal * (A1 (ix4 b k h ⟨e, by omega⟩)).toReal
    + ∑ e : Fin 32, (A0 (ix4 b n h ⟨64 + e, by omega⟩)).toReal * (A2 (ix3 b k e)).toReal) * σ

/-- The same with the key a natural number, zero beyond the last key. -/
def key (b : Fin 4) (h : Fin 8) (n : Fin 4096) (k : ℕ) : ℝ := if hk : k < 4096 then score A0 A1 A2 b h n ⟨k, hk⟩ else 0

/-- Component `d` of the value of key `k`, zero beyond the last key. -/
def val (b : Fin 4) (h : Fin 8) (d : Fin 64) (k : ℕ) : ℝ := if hk : k < 4096 then (A1 (ix4 b ⟨k, hk⟩ h ⟨64 + d, by omega⟩)).toReal else 0

theorem key_of (b : Fin 4) (h : Fin 8) (n k : Fin 4096) : key A0 A1 A2 b h n k.val = score A0 A1 A2 b h n k := dif_pos k.isLt

theorem val_of (b : Fin 4) (h : Fin 8) (d : Fin 64) (k : Fin 4096) : val A1 b h d k.val = (A1 (ix4 b k h ⟨64 + d, by omega⟩)).toReal := dif_pos k.isLt

variable (K U : ℕ → ℝ) (n : ℕ)

/-- The weighted sum of `U` over the keys up to `n`. -/
def num : ℝ := ∑ k : Fin 4096, U k.val * (if k.val ≤ n then Real.exp (K k.val) else 0)

/-- The sum of the weights is positive. -/
theorem den_pos : 0 < num K (fun _ => 1) n := by
  refine Finset.sum_pos' (fun k _ => ?_) ⟨⟨0, by omega⟩, Finset.mem_univ _, ?_⟩
  · split_ifs
    · simpa using (Real.exp_pos _).le
    · simp
  · simpa using Real.exp_pos _

/-- The attention of query `n`. -/
def attn : ℝ := num K U n / num K (fun _ => 1) n

end Cert.Soft

end
-- ==== Proof.Attn.Final.lean ====
/- The kernel's result at every index is the attention of the query, for real arguments. -/
module

public import proofs.«01_k».proof.Proof.Attn.Host
public import proofs.«01_k».proof.Proof.Attn.Spec
public import proofs.«01_k».proof.Proof.Gen.KernelIdeal.Value

@[expose] public section

set_option maxRecDepth 16384

noncomputable section

namespace Cert.KernelIdeal.Attn

open Cert.KernelIdeal Cert.KernelIdeal.Gen Idealize.ShloMosaic Idealize.ShloMosaic.TcCoe Idealize.ShloMosaic.Tactic Idealize.SL.Sem
open Cert.Soft

section arrays

variable (A0 : FVec Ideal S4x4096x8x96 .f32) (A1 : FVec Ideal S4x4096x8x128 .f32) (A2 : FVec Ideal S4x4096x32 .f32)

/-- A prepared query: scaled, zero beyond component 96. -/
theorem q_at (b : Fin 4) (h i : Fin 8) (e : Fin 128) (r : Fin 512) :
    qHost A0 (ix5 b h i e r) = (if he : e.val < 96 then A0 (ix4 b ⟨i * 512 + r, by omega⟩ h ⟨e, he⟩) else 0) * Ideal.ofBits .f32 1037108716#32 := by
  pointwise [qHost]

/-- A prepared key: its own 64 components, the 32 shared ones, zeros. -/
theorem k_at (b : Fin 4) (h : Fin 8) (k : Fin 4096) (e : Fin 128) :
    kHost A1 A2 (ix4 b h k e) = if he : e.val < 64 then A1 (ix4 b k h ⟨e, by omega⟩) else if he' : e.val - 64 < 32 then A2 (ix3 b k ⟨e - 64, he'⟩) else 0 := by
  pointwise [kHost]

/-- A prepared value. -/
theorem v_at (b : Fin 4) (h j : Fin 8) (d : Fin 64) (r : Fin 512) :
    vHost A1 (ix5 b h j d r) = A1 (ix4 b ⟨j * 512 + r, by omega⟩ h ⟨64 + d, by omega⟩) := by
  pointwise [vHost]

variable {A0 A1 A2} (h0 : Reals A0) (h1 : Reals A1) (h2 : Reals A2)
include h0 h1 h2

/-- The product of a prepared key and a prepared query is the score. -/
theorem score_eq (b : Fin 4) (h i : Fin 8) (k : Fin 4096) (r : Fin 512) :
    ∑ e : Fin 128, kHost A1 A2 (ix4 b h k e) * qHost A0 (ix5 b h i e r) = (score A0 A1 A2 b h ⟨i * 512 + r, by omega⟩ k : EReal) := by
  unfold score
  rw [← sum_padded (fun e => (A1 (ix4 b k h ⟨e, by omega⟩)).toReal) (fun e => (A2 (ix3 b k e)).toReal)
    (fun e => (A0 (ix4 b ⟨i * 512 + r, by omega⟩ h e)).toReal) σ, ← sum_coe]
  refine Finset.sum_congr rfl fun e _ => ?_
  rw [k_at, q_at, sigma_eq, EReal.coe_mul, EReal.coe_mul]
  congr 1
  · split_ifs
    · exact h1 _
    · exact h2 _
    · rfl
  · congr 1
    split_ifs
    · exact h0 _
    · rfl

end arrays

/-- The query tile is odd at the odd grid points. -/
theorem par : ∀ t : Fin grid0.N, qt t % 2 = t.val % 2 := by decide +kernel

variable (m : (ℓ : Loc nD τ sig) → Buf (Elt Ideal) ℓ)

section block

variable (c : Dev nD) (t : Fin cfg0.N)
  (A0 : FVec Ideal S4x4096x8x96 .f32) (A1 : FVec Ideal S4x4096x8x128 .f32) (A2 : FVec Ideal S4x4096x32 .f32)
  (e0 : m ((c : Thread nD τ).loc main_arg0) = A0) (e1 : m ((c : Thread nD τ).loc main_arg1) = A1) (e2 : m ((c : Thread nD τ).loc main_arg2) = A2)
  (h0 : Reals A0) (h1 : Reals A1) (h2 : Reals A2)
  (b : Fin 4) (h i : Fin 8) (hb : (grid0.coords t 0).val = b.val) (hh : (grid0.coords t 1).val = h.val) (hi : (grid0.coords t 2).val = i.val)
include e0 e1 e2 h0 h1 h2 hb hh hi

/-- A grid point's blocks hold the scores and the values of its column. -/
theorem holds (r : Fin 512) : Holds r (iblk m c 0 t) (iblk m c 1 t) (iblk m c 2 t) (key A0 A1 A2 b h ⟨i * 512 + r, by omega⟩) (val A1 b h) where
  score k hk := by
    rw [show key A0 A1 A2 b h ⟨i * 512 + r, by omega⟩ k = score A0 A1 A2 b h ⟨i * 512 + r, by omega⟩ ⟨k, hk⟩ from dif_pos hk, ← score_eq h0 h1 h2]
    refine Finset.sum_congr rfl fun e _ => ?_
    rw [q_block m c t b h i hb hh hi, k_block m c t b h hb hh, e0, e1, e2]
  value j hj d s := by
    have hk : 512 * j + s.val < 4096 := by omega
    have hx : (⟨j * 512 + s.val, by omega⟩ : Fin 4096) = ⟨512 * j + s.val, hk⟩ := Fin.ext (by simp only; ring)
    rw [show val A1 b h d (512 * j + s.val) = (A1 (ix4 b ⟨512 * j + s.val, hk⟩ h ⟨64 + d, by omega⟩)).toReal from dif_pos hk, ← h1,
      v_block m c t b h hb hh, e1, v_at, hx]

/-- What the tiles up to the query's add up to is the sum over the keys up to the query. -/
theorem tiles_num (K U : ℕ → ℝ) (r : Fin 512) : ∑ j ∈ Finset.range (qt t), T K U j + Tm r K U (qt t) = num K U (512 * i + r) := by
  rw [show qt t = i.val from hi]
  exact (sum_causal U (fun k => Real.exp (K k)) i.val i.isLt r).symm

/-- What the body leaves in the output's block is its tile's attention. -/
theorem left_at (d : Fin 64) (r : Fin 512) :
    outsAt0 m c t.val t.isLt (ix5 0 0 0 d r) = (attn (key A0 A1 A2 b h ⟨i * 512 + r, by omega⟩) (val A1 b h d) (512 * i + r) : EReal) := by
  have H := holds m c t A0 A1 A2 e0 e1 e2 h0 h1 h2 b h i hb hh hi r
  have hN := fun U => tiles_num m c t A0 A1 A2 e0 e1 e2 h0 h1 h2 b h i hb hh hi (key A0 A1 A2 b h ⟨i * 512 + r, by omega⟩) U r
  have hZ := (den_pos (key A0 A1 A2 b h ⟨i * 512 + r, by omega⟩) (512 * i + r)).ne'
  by_cases hp : t.val % 2 = 1
  · have I := odd_inv (t := t) H ((par t).trans hp) ((hcond0_0 t).mpr hp)
    simp only [hN] at I
    rw [outsAt0_B m c t hp, outB_eq]
    exact pay9_inv _ r _ _ I hZ d
  · have I := even_inv (t := t) H (fun h => hp ((par t).symm.trans h))
    simp only [hN] at I
    rw [outsAt0_A m c t hp, outA_eq]
    exact pay9_inv _ r _ _ I hZ d

end block

/-- The result array is any array that holds every query's attention. -/
theorem final (c : Dev nD) (A0 : FVec Ideal S4x4096x8x96 .f32) (A1 : FVec Ideal S4x4096x8x128 .f32) (A2 : FVec Ideal S4x4096x32 .f32)
    (e0 : m ((c : Thread nD τ).loc main_arg0) = A0) (e1 : m ((c : Thread nD τ).loc main_arg1) = A1) (e2 : m ((c : Thread nD τ).loc main_arg2) = A2)
    (h0 : Reals A0) (h1 : Reals A1) (h2 : Reals A2) (X : FVec Ideal S4x8x8x64x512 .bf16)
    (hX : ∀ (b : Fin 4) (h i : Fin 8) (d : Fin 64) (r : Fin 512),
      X (ix5 b h i d r) = (attn (key A0 A1 A2 b h ⟨i * 512 + r, by omega⟩) (val A1 b h d) (512 * i + r) : EReal)) :
    (dats m 0 c).arrAt 3 cfg0.N = X := by
  refine (dats m 0 c).arrAt_eq_of_covers 3 X (by decide +kernel) fun t _ y => ?_
  obtain ⟨y0, y1, y2, d, r, rfl⟩ : ∃ (y0 y1 y2 : Fin 1) (d : Fin 64) (r : Fin 512), y = ix5 y0 y1 y2 d r := ⟨y 0, y 1, y 2, y 3, y 4, by funext a; fin_cases a <;> rfl⟩
  obtain rfl := Subsingleton.elim y0 0
  obtain rfl := Subsingleton.elim y1 0
  obtain rfl := Subsingleton.elim y2 0
  blk_simp
  rw [after0_3]
  refine (left_at m c t A0 A1 A2 e0 e1 e2 h0 h1 h2 ⟨(grid0.coords t 0).val, (grid0.coords t 0).isLt⟩ ⟨(grid0.coords t 1).val, (grid0.coords t 1).isLt⟩
    ⟨(grid0.coords t 2).val, (grid0.coords t 2).isLt⟩ rfl rfl rfl d r).trans ?_
  rw [← hX]
  exact congrArg X (emb3 t _ _ _ rfl rfl rfl d r).symm

end Cert.KernelIdeal.Attn

end
-- ==== Proof.Attn.Ref.lean ====
/- The reference at an index: its masked scores, their softmax, and the product with the values. -/
module

public import proofs.«01_k».proof.Proof.Gen.ReferenceIdeal.Run
public import proofs.«01_k».proof.Proof.Attn.Spec
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe Idealize.ShloMosaic.Tactic Idealize.SL.Sem

/-- The products of queries and keys. -/
def prod (A0 : FVec Ideal S4x4096x8x96 .f32) (A1 : FVec Ideal S4x4096x8x128 .f32) (A2 : FVec Ideal S4x4096x32 .f32) : FVec Ideal S4x8x4096x4096 .f32 :=
  Host.dotGeneral dot_S4x4096x8x96_S4x4096x8x96_S4x8x4096x4096_3_3_1_1_02_02 none A0 (concatenate S4x4096x8x96 3 [⟨S4x4096x8x64, (extractStridedSlice S4x4096x8x64 ![0, 0, 0, 0] A1 slices_S4x4096x8x128_S4x4096x8x64_0_0_0_0)⟩, ⟨S4x4096x8x32, (broadcastInDim S4x4096x8x32 ![0, 1, 2, 3] bcast_S4x4096x1x32_S4x4096x8x32_0_1_2_3 (broadcastInDim S4x4096x1x32 ![0, 1, 3] bcast_S4x4096x32_S4x4096x1x32_0_1_3 A2))⟩] concatenates_S4x4096x8x64_S4x4096x8x32_S4x4096x8x96_d3)

/-- The scores of the products: scaled, and minus infinity where the key comes after the query. -/
def masked (D : FVec Ideal S4x8x4096x4096 .f32) : FVec Ideal S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (mulf D (broadcastInDim S4x8x4096x4096 ![] bcast_S_S4x8x4096x4096 (constant S_ .f32 0x3DD105EC#32))) (broadcastInDim S4x8x4096x4096 ![] bcast_S_S4x8x4096x4096 (id (constant S_ .f32 0xFF800000#32)))

/-- The greatest score of each row. -/
def rowmax (X : FVec Ideal S4x8x4096x4096 .f32) (z : FVec Ideal S_ .f32) : FVec Ideal S4x8x4096 .f32 :=
  Host.reduce FloatOps.maximumf X z reducesTo_S4x8x4096x4096_S4x8x4096_d3 h_S_

/-- The exponentials of the scores less their greatest. -/
def exps (X : FVec Ideal S4x8x4096x4096 .f32) (M : FVec Ideal S4x8x4096 .f32) : FVec Ideal S4x8x4096x4096 .f32 :=
  Host.exp (subf X (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) M))))

/-- The exponentials divided by their sum. -/
def probs (Y : FVec Ideal S4x8x4096x4096 .f32) : FVec Ideal S4x8x4096x4096 .f32 :=
  Host.divf Y (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd Y (constant S_ .f32 0x00000000#32) reducesTo_S4x8x4096x4096_S4x8x4096_d3 h_S_)))

/-- The product with the values, its rows cut into tiles and each tile turned. -/
def out (A1 : FVec Ideal S4x4096x8x128 .f32) (W : FVec Ideal S4x8x4096x4096 .f32) : FVec Ideal S4x8x8x64x512 .bf16 :=
  truncf .bf16 (transpose S4x8x8x64x512 [0, 1, 2, 4, 3] (shapeCast S4x8x8x512x64 (Host.dotGeneral dot_S4x8x4096x4096_S4x4096x8x64_S4x8x4096x64_3_1_2_3_01_02 none W (extractStridedSlice S4x4096x8x64 ![0, 0, 0, 64] A1 slices_S4x4096x8x128_S4x4096x8x64_0_0_0_64)) shapeCasts_S4x8x4096x64_S4x8x8x512x64) transposes_S4x8x8x512x64_S4x8x8x64x512_0_1_2_4_3) bitsLt_bf16_f32

/-- The reference's result is these in turn. -/
theorem res_eq (m : (ℓ : Loc nD τ sig) → Buf (Elt Ideal) ℓ) (c : Dev nD) :
    let X := masked (prod (m ((c.tc : Thread nD τ).loc main_arg0)) (m ((c.tc : Thread nD τ).loc main_arg1)) (m ((c.tc : Thread nD τ).loc main_arg2)))
    Value.res_main_v29 m c = out (m ((c.tc : Thread nD τ).loc main_arg1)) (probs (exps X (rowmax X (constant S_ .f32 0xFF800000#32)))) := rfl

/-- A product at an index. -/
theorem prod_at (A0 A1 A2) (b : Fin 4) (h : Fin 8) (n k : Fin 4096) : prod A0 A1 A2 (ix4 b h n k)
    = ∑ e : Fin 64, A0 (ix4 b n h ⟨e, by omega⟩) * A1 (ix4 b k h ⟨e, by omega⟩) + ∑ e : Fin 32, A0 (ix4 b n h ⟨64 + e, by omega⟩) * A2 (ix3 b k e) := by
  pointwise [prod]

/-- A masked score at an index. -/
theorem masked_at (D) (b : Fin 4) (h : Fin 8) (n k : Fin 4096) : masked D (ix4 b h n k) = if k.val ≤ n.val then D (ix4 b h n k) * (Cert.Soft.σ : EReal) else ⊥ := by
  pointwise [masked]
  rw [Cert.Soft.select_sle _ _ (by omega) (by omega), Cert.Soft.sigma_eq]
  exact if_congr Iff.rfl rfl Cert.Soft.ofBits_bot

/-- An exponential at an index. -/
theorem exps_at (D M) (b : Fin 4) (h : Fin 8) (n k : Fin 4096) : exps D M (ix4 b h n k) = Ideal.exp (D (ix4 b h n k) - max ⊥ (M (ix3 b h n))) := by
  rw [← Cert.Soft.ofBits_bot]
  pointwise [exps]

/-- The greatest score at an index. -/
theorem rowmax_at (X z) (b : Fin 4) (h : Fin 8) (n : Fin 4096) : rowmax X z (ix3 b h n) = Finset.univ.fold max (z (Shape.Idx.first h_S_)) fun x : Fin 4096 => X (ix4 b h n x) := by
  pointwise [rowmax]

/-- A quotient at an index. -/
theorem probs_at (D) (b : Fin 4) (h : Fin 8) (n k : Fin 4096) : probs D (ix4 b h n k) = Ideal.div (D (ix4 b h n k)) (∑ x : Fin 4096, D (ix4 b h n x)) := by
  pointwise [probs]

/-- The result at an index. -/
theorem out_at (A1 D) (b : Fin 4) (h t : Fin 8) (d : Fin 64) (r : Fin 512) : out A1 D (ix5 b h t d r) = ∑ x : Fin 4096, D (ix4 b h ⟨t * 512 + r, by omega⟩ x) * A1 (ix4 b x h ⟨64 + d, by omega⟩) := by
  pointwise [out]

/-- With real arguments a masked score is the real score, or minus infinity after the query. -/
theorem score_at (A0 : FVec Ideal S4x4096x8x96 .f32) (A1 : FVec Ideal S4x4096x8x128 .f32) (A2 : FVec Ideal S4x4096x32 .f32) (h0 : Cert.Soft.Reals A0) (h1 : Cert.Soft.Reals A1) (h2 : Cert.Soft.Reals A2)
    (b : Fin 4) (h : Fin 8) (n k : Fin 4096) :
    masked (prod A0 A1 A2) (ix4 b h n k) = if k.val ≤ n.val then (Cert.Soft.score A0 A1 A2 b h n k : EReal) else ⊥ := by
  rw [masked_at, prod_at]
  refine if_congr Iff.rfl ?_ rfl
  unfold Cert.Soft.score
  rw [EReal.coe_mul, EReal.coe_add, ← Cert.Soft.sum_coe, ← Cert.Soft.sum_coe]
  congr 2
  · refine Finset.sum_congr rfl fun e _ => ?_
    rw [EReal.coe_mul, ← h0, ← h1]
  · refine Finset.sum_congr rfl fun e _ => ?_
    rw [EReal.coe_mul, ← h0, ← h2]

/-- The reference's result at an index, for real arguments: the attention of the query. -/
theorem ref_at (m : (ℓ : Loc nD τ sig) → Buf (Elt Ideal) ℓ) (c : Dev nD)
    (A0 : FVec Ideal S4x4096x8x96 .f32) (A1 : FVec Ideal S4x4096x8x128 .f32) (A2 : FVec Ideal S4x4096x32 .f32)
    (e0 : m ((c.tc : Thread nD τ).loc main_arg0) = A0) (e1 : m ((c.tc : Thread nD τ).loc main_arg1) = A1) (e2 : m ((c.tc : Thread nD τ).loc main_arg2) = A2)
    (h0 : Cert.Soft.Reals A0) (h1 : Cert.Soft.Reals A1) (h2 : Cert.Soft.Reals A2) (b : Fin 4) (h t : Fin 8) (d : Fin 64) (r : Fin 512) :
    Value.res_main_v29 m c (ix5 b h t d r)
      = (Cert.Soft.attn (Cert.Soft.key A0 A1 A2 b h ⟨t * 512 + r, by omega⟩) (Cert.Soft.val A1 b h d) (512 * t + r) : EReal) := by
  rw [res_eq, e0, e1, e2]
  simp only [out_at, probs_at, exps_at, rowmax_at, score_at A0 A1 A2 h0 h1 h2]
  rw [show (constant (F := Ideal) S_ .f32 0xFF800000#32) (Shape.Idx.first h_S_) = ⊥ from Cert.Soft.ofBits_bot]
  have hv : ∀ x : Fin 4096, A1 (ix4 b x h ⟨64 + d, by omega⟩) = ((Cert.Soft.val A1 b h d x.val : ℝ) : EReal) := fun x => by
    rw [Cert.Soft.val_of, ← h1]
  simp only [hv]
  have hn : t.val * 512 + r.val = 512 * t.val + r.val := by ring
  refine (Cert.Soft.softmax_apply (fun x => Cert.Soft.val A1 b h d x.val)
    (fun x : Fin 4096 => if x.val ≤ t.val * 512 + r.val then (Cert.Soft.score A0 A1 A2 b h ⟨t * 512 + r, by omega⟩ x : EReal) else ⊥) ?_ ⟨0, by omega⟩ ?_).trans ?_
  · intro x
    show (if x.val ≤ t.val * 512 + r.val then _ else ⊥) ≠ (⊤ : EReal)
    split_ifs
    · exact EReal.coe_ne_top _
    · exact bot_ne_top
  · simp
  · have hE : ∀ x : Fin 4096, Cert.Soft.E (if x.val ≤ t.val * 512 + r.val then (Cert.Soft.score A0 A1 A2 b h ⟨t * 512 + r, by omega⟩ x : EReal) else ⊥)
        = if x.val ≤ 512 * t.val + r.val then Real.exp (Cert.Soft.key A0 A1 A2 b h ⟨t * 512 + r, by omega⟩ x.val) else 0 := fun x => by
      rw [Cert.Soft.key_of, apply_ite Cert.Soft.E]
      refine (if_congr (by omega) ?_ ?_)
      · exact Cert.Soft.E_coe _
      · exact Cert.Soft.E_bot
    simp only [hE]
    unfold Cert.Soft.attn Cert.Soft.num
    simp only [one_mul]

end Cert.ReferenceIdeal.Attn

end
-- ==== Proof.Attn.Finite.lean ====
/- What the precondition says: every argument's elements are real numbers. -/
module

public import proofs.«01_k».proof.Pre_finite
public import proofs.«01_k».proof.Proof.Attn.Spec
public import Idealize.ShloMosaic.Lib.ReduceAll

@[expose] public section

noncomputable section

namespace Cert.Pre_finite

open Idealize.ShloMosaic

/-- The predicate's side conditions. -/
instance facts : Facts where
  bcast_S_S4x4096x8x96 := by decide
  reducesTo_S4x4096x8x96_S_d0_1_2_3 := by decide
  h_S_ := by decide
  bcast_S_S4x4096x8x128 := by decide
  reducesTo_S4x4096x8x128_S_d0_1_2_3 := by decide
  bcast_S_S4x4096x32 := by decide
  reducesTo_S4x4096x32_S_d0_1_2 := by decide

/-- The literal of the comparison is plus infinity. -/
theorem ofBits_top : Ideal.ofBits .f32 0x7F800000#32 = ⊤ := by simp [Ideal.ofBits, Ideal.ieee]

/-- A number whose absolute value is below plus infinity is real. -/
theorem real_of_abs (x : EReal) (h : Ideal.cmp .olt (max x (-x)) (Ideal.ofBits .f32 0x7F800000#32) = 1#1) : x = (x.toReal : EReal) := by
  rw [ofBits_top] at h
  refine (EReal.coe_toReal ?_ ?_).symm <;> rintro rfl <;> simp [Ideal.cmp] at h

/-- If the predicate is one, the elements of all three arguments are real. -/
theorem reals (a0 : FVec Ideal S4x4096x8x96 .f32) (a1 : FVec Ideal S4x4096x8x128 .f32) (a2 : FVec Ideal S4x4096x32 .f32)
    (h : fn (F := Ideal) a0 a1 a2 = fun _ => 1#1) : Cert.Soft.Reals a0 ∧ Cert.Soft.Reals a1 ∧ Cert.Soft.Reals a2 := by
  have hj := congrFun h (Shape.Idx.first (by decide))
  unfold fn at hj
  obtain ⟨h01, h2⟩ := IntOp.andi_eq_one.1 hj
  obtain ⟨h0, h1⟩ := IntOp.andi_eq_one.1 h01
  have : Subsingleton S_.Idx := ⟨fun i j => funext fun a => a.elim0⟩
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i)⟩

end Cert.Pre_finite

end
-- ==== Proof.Ffn.Up.lean ====
/- The feed-forward part's first call: what its scratch arrays hold, and that its result is the gated product of the
   plain formula. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.Reference2Ideal.Up

open Cert.Reference2Ideal Cert.Reference2Ideal.Gen Idealize.ShloMosaic Idealize.ShloMosaic.TcCoe Idealize.ShloMosaic.Tactic Idealize.SL.Sem

/-- The plain formula's array: the product with the first weight, times its own logistic, times the product with the
    second weight. -/
def plain (u : FVec Ideal S4x4096x2048 .f32) (wg wu : FVec Ideal S2048x5632 .f32) : FVec Ideal S16384x5632 .bf16 :=
  truncf .bf16 (shapeCast _ (mulf (mulf (Host.dotGeneral dot_S4x4096x2048_S2048x5632_S4x4096x5632_2_0_01_1_n_n none u wg) (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (Host.dotGeneral dot_S4x4096x2048_S2048x5632_S4x4096x5632_2_0_01_1_n_n none u wg)))))) (Host.dotGeneral dot_S4x4096x2048_S2048x5632_S4x4096x5632_2_0_01_1_n_n none u wu)) shapeCasts_S4x4096x5632_S16384x5632) bitsLt_bf16_f32

/-- A number times its logistic, times another number. -/
def gated (a b : EReal) : EReal := a * Ideal.logistic a * b

/-- The plain formula at a row and a column. -/
theorem plain_at (u : FVec Ideal S4x4096x2048 .f32) (wg wu : FVec Ideal S2048x5632 .f32) (r : Fin 16384) (f : Fin 5632) :
    plain u wg wu (ix2 r f) = gated
      (∑ k : Fin 2048, u (ix3 (⟨r.val / 4096, by omega⟩ : Fin 4) (⟨r.val % 4096, Nat.mod_lt _ (by decide)⟩ : Fin 4096) k) * wg (ix2 k f))
      (∑ k : Fin 2048, u (ix3 (⟨r.val / 4096, by omega⟩ : Fin 4) (⟨r.val % 4096, Nat.mod_lt _ (by decide)⟩ : Fin 4096) k) * wu (ix2 k f)) := by
  pointwise [plain, gated, Ideal.logistic]

end Cert.Reference2Ideal.Up

namespace Cert.Kernel2Ideal.Up

open Cert.Kernel2Ideal Cert.Kernel2Ideal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Where each window's block sits. -/
theorem idx : ∀ t : Fin cfg0.N, win0_0.index t = ![t.val % 16, 0] ∧ win0_1.index t = ![0, t.val / 16]
    ∧ win0_2.index t = ![0, t.val / 16] ∧ win0_3.index t = ![t.val % 16, t.val / 16] ∧ t.val < 176 :=
  (by decide +kernel : ∀ t : Fin grid0.N, _)

/-- Consecutive points of one column of tiles read the same block of the first weight. -/
theorem same1 (c : Dev nD) (t s : Fin cfg0.N) (h : t.val / 16 = s.val / 16) :
    (show Vec Ideal S2048x512 .f32 from iblk m c 1 t) = iblk m c 1 s := by
  funext y
  have e := (idx t).2.1
  have e' := (idx s).2.1
  blk_ext [iblk, e, e', h]

/-- And of the second. -/
theorem same2 (c : Dev nD) (t s : Fin cfg0.N) (h : t.val / 16 = s.val / 16) :
    (show Vec Ideal S2048x512 .f32 from iblk m c 2 t) = iblk m c 2 s := by
  funext y
  have e := (idx t).2.2.1
  have e' := (idx s).2.2.1
  blk_ext [iblk, e, e', h]

/-- After each point the scratch arrays hold the weights' blocks of its column. -/
theorem held (c : Dev nD) : ∀ (n : ℕ) (h : n < cfg0.N),
    (outsAt0 m c n h).2.1 = k0_pay1 (F := Ideal) (iblk m c 1 ⟨n, h⟩) ∧ (outsAt0 m c n h).2.2 = k0_pay2 (F := Ideal) (iblk m c 2 ⟨n, h⟩) := by
  intro n
  induction n with
  | zero =>
    intro h
    rw [outsAt0_A m c ⟨0, h⟩ (Nat.zero_mod _)]
    constructor <;> frame_out
  | succ n ih =>
    intro h
    by_cases h0 : (n + 1) % 16 = 0
    · rw [outsAt0_A m c ⟨n + 1, h⟩ h0]
      constructor <;> frame_out
    · obtain ⟨i1, i2⟩ := ih (Nat.lt_of_succ_lt h)
      have hs : (⟨n, Nat.lt_of_succ_lt h⟩ : Fin cfg0.N).val / 16 = (⟨n + 1, h⟩ : Fin cfg0.N).val / 16 := by
        show n / 16 = (n + 1) / 16
        omega
      rw [outsAt0_B m c ⟨n + 1, h⟩ h0]
      constructor
      · unfold sout0_B_0
        exact i1.trans (congrArg (k0_pay1 (F := Ideal)) (same1 m c _ _ hs))
      · unfold sout0_B_1
        exact i2.trans (congrArg (k0_pay2 (F := Ideal)) (same2 m c _ _ hs))

section
open StableHlo

/-- The activations as the host lays them out, rows after rows. -/
def rows (u : FVec Ideal S4x4096x2048 .f32) : FVec Ideal S16384x2048 .bf16 :=
  truncf .bf16 (shapeCast S16384x2048 u shapeCasts_S4x4096x2048_S16384x2048) bitsLt_bf16_f32

/-- The region finds the activations so laid out. -/
theorem V_u (c : Dev nD) : V m c (Pipeline.arrRef spec0 0) = rows (m ((c : Thread nD τ).loc main_arg0)) := by
  show StableHlo.after hostOps0 _ (Proc.devRef .tc main_v1) = _
  simp (disch := decide) only [after_cons, after_nil, unary_result', reshape_result', unary_result_ne', reshape_result_ne']
  rfl

end

/-- A row of the activations. -/
theorem rows_at (u : FVec Ideal S4x4096x2048 .f32) (r : Fin 16384) (k : Fin 2048) :
    rows u (ix2 r k) = u (ix3 (⟨r.val / 4096, by omega⟩ : Fin 4) (⟨r.val % 4096, Nat.mod_lt _ (by decide)⟩ : Fin 4096) k) := by
  pointwise [rows]

/-- An element of a block of rows, of any contents of the array. -/
theorem read0 (c : Dev nD) (t : Fin cfg0.N) (a : Fin 1024) (k : Fin 2048) (r : Fin 16384) (hr : r.val = t.val % 16 * 1024 + a.val)
    (X : Vec Ideal S16384x2048 .bf16) (hX : V m c (Pipeline.arrRef spec0 0) = X) :
    iblk m c 0 t (ix2 a k) = X (ix2 r k) := by
  have e := (idx t).1
  unfold iblk
  rw [hX]
  refine congrArg X ?_
  blk_ext [e, hr]

/-- An element of a block of the first weight. -/
theorem read1 (c : Dev nD) (t : Fin cfg0.N) (k : Fin 2048) (b : Fin 512) (f : Fin 5632) (hf : f.val = t.val / 16 * 512 + b.val) :
    iblk m c 1 t (ix2 k b) = m ((c : Thread nD τ).loc main_arg1) (ix2 k f) := by
  have e := (idx t).2.1
  blk_ext [iblk, V, e, hf]

/-- An element of a block of the second weight. -/
theorem read2 (c : Dev nD) (t : Fin cfg0.N) (k : Fin 2048) (b : Fin 512) (f : Fin 5632) (hf : f.val = t.val / 16 * 512 + b.val) :
    iblk m c 2 t (ix2 k b) = m ((c : Thread nD τ).loc main_arg2) (ix2 k f) := by
  have e := (idx t).2.2.1
  blk_ext [iblk, V, e, hf]

/-- What the body stores at a row and a column of the block. -/
theorem pay_at (x : Vec Ideal S1024x2048 .bf16) (g v : Vec Ideal S2048x512 .f32) (a : Fin 1024) (b : Fin 512) :
    k0_pay3 (F := Ideal) x (k0_pay1 (F := Ideal) g) (k0_pay2 (F := Ideal) v) (ix2 a b)
      = Cert.Reference2Ideal.Up.gated (∑ k : Fin 2048, x (ix2 a k) * g (ix2 k b)) (∑ k : Fin 2048, x (ix2 a k) * v (ix2 k b)) := by
  pointwise [k0_pay1, k0_pay2, k0_pay3, Cert.Reference2Ideal.Up.gated]

/-- What a point stores, over the weights' blocks, is the plain formula at the place it goes to. -/
theorem point_at (c : Dev nD) (t : Fin cfg0.N) (a : Fin 1024) (b : Fin 512) (r : Fin 16384) (f : Fin 5632)
    (hr : r.val = t.val % 16 * 1024 + a.val) (hf : f.val = t.val / 16 * 512 + b.val) :
    k0_pay3 (F := Ideal) (iblk m c 0 t) (k0_pay1 (F := Ideal) (iblk m c 1 t)) (k0_pay2 (F := Ideal) (iblk m c 2 t)) (ix2 a b)
      = Cert.Reference2Ideal.Up.plain (m ((c : Thread nD τ).loc main_arg0)) (m ((c : Thread nD τ).loc main_arg1)) (m ((c : Thread nD τ).loc main_arg2)) (ix2 r f) := by
  have e0 := fun k => (read0 m c t a k r hr _ (V_u m c)).trans (rows_at _ r k)
  rw [pay_at]
  refine Eq.trans ?_ (Cert.Reference2Ideal.Up.plain_at _ _ _ r f).symm
  exact congrArg₂ _ (Finset.sum_congr rfl fun k _ => congrArg₂ (· * ·) (e0 k) (read1 m c t k b f hf))
    (Finset.sum_congr rfl fun k _ => congrArg₂ (· * ·) (e0 k) (read2 m c t k b f hf))

/-- The same at the index of the array that a place of the block has. -/
theorem point (c : Dev nD) (t : Fin cfg0.N) (y : S1024x512.Idx) :
    k0_pay3 (F := Ideal) (iblk m c 0 t) (k0_pay1 (F := Ideal) (iblk m c 1 t)) (k0_pay2 (F := Ideal) (iblk m c 2 t)) y
      = Cert.Reference2Ideal.Up.plain (m ((c : Thread nD τ).loc main_arg0)) (m ((c : Thread nD τ).loc main_arg1)) (m ((c : Thread nD τ).loc main_arg2)) (((cfg0.win 3).blk t).view.emb y) := by
  obtain ⟨-, -, -, e, ht⟩ := idx t
  have h0 : (y 0).val < 1024 := (y 0).isLt
  have h1 : (y 1).val < 512 := (y 1).isLt
  have key := point_at m c t (y 0) (y 1) ⟨t.val % 16 * 1024 + (y 0).val, by omega⟩ ⟨t.val / 16 * 512 + (y 1).val, by omega⟩ rfl rfl
  have hy : (ix2 (y 0) (y 1) : S1024x512.Idx) = y := by blk_ext
  rw [hy] at key
  refine key.trans (congrArg _ ?_)
  blk_ext [e]

/-- The array after the run is the plain formula's. -/
theorem final (c : Dev nD) : (dats m 0 c).arrAt 3 (cfgs 0).N
    = Cert.Reference2Ideal.Up.plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases h0 : t.val % 16 = 0
  · rw [outsAt0_A m c t h0]
    frame_out
    exact point m c t y
  · obtain ⟨i1, i2⟩ := held m c (t.val - 1) (Nat.lt_of_le_of_lt (Nat.sub_le _ _) t.isLt)
    have hs : (⟨t.val - 1, Nat.lt_of_le_of_lt (Nat.sub_le _ _) t.isLt⟩ : Fin cfg0.N).val / 16 = t.val / 16 := by
      show (t.val - 1) / 16 = t.val / 16
      omega
    rw [outsAt0_B m c t h0]
    frame_out
    rw [read_unread_whole, read_unread_whole, i1.trans (congrArg (k0_pay1 (F := Ideal)) (same1 m c _ t hs)),
      i2.trans (congrArg (k0_pay2 (F := Ideal)) (same2 m c _ t hs))]
    exact point m c t y

end Cert.Kernel2Ideal.Up

end
-- ==== Proof.Ffn.Row.lean ====
/- One row of the arrays around a sublayer, over the extended reals: the norm, the residual sum with the gated update,
   and the modulated norm that the next sublayer begins with. -/
module

public import proofs.«01_k».proof.Proof.Gen.Reference5Ideal
public import Idealize.ShloMosaic.Lib.Pipeline.ValueKit
public import Idealize.ShloMosaic.Lib.Claim

@[expose] public section

set_option maxRecDepth 16384

noncomputable section

namespace Cert.Row

open Cert.Reference5Ideal Cert.Reference5Ideal.Gen Idealize.ShloMosaic Idealize.ShloMosaic.TcCoe Idealize.ShloMosaic.Tactic Idealize.SL.Sem

/-- A row divided by the root of the mean of its squares (with the small constant under the root). -/
def rms (x : Fin 2048 → EReal) (d : Fin 2048) : EReal :=
  x d * Ideal.rsqrt (Ideal.div (∑ k, x k * x k) (Ideal.ofBits .f32 0x45000000#32) + Ideal.ofBits .f32 0x358637BD#32)

/-- The residual row plus the gated, normed update, with the weight that the literal `wt` is. -/
def upd (wt : BitVec 32) (x gate p g : Fin 2048 → EReal) (d : Fin 2048) : EReal :=
  x d + Ideal.ofBits .f32 wt * gate d * (rms p d * g d)

/-- The normed row with its gain, scaled and shifted. -/
def nxt (x g scale shift : Fin 2048 → EReal) (d : Fin 2048) : EReal :=
  rms x d * g d * (1 + scale d) + shift d

/-- The reference's norm over the last axis, with its gain. -/
def norm (x : FVec Ideal S4x4096x2048 .f32) (g : FVec Ideal S2048 .f32) : FVec Ideal S4x4096x2048 .f32 :=
  mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))

/-- The reference's residual sum with the gated update. -/
def add (wt : BitVec 32) (x : FVec Ideal S4x4096x2048 .f32) (gate : FVec Ideal S4x1x2048 .f32) (y : FVec Ideal S4x4096x2048 .f32) : FVec Ideal S4x4096x2048 .f32 :=
  addf x (mulf (broadcastInDim S4x4096x2048 ![0, 1, 2] bcast_S4x1x2048_S4x4096x2048_0_1_2 (mulf (broadcastInDim S4x1x2048 ![] bcast_S_S4x1x2048 (constant S_ .f32 wt)) gate)) y)

/-- The reference's scaling and shifting. -/
def modulate (y : FVec Ideal S4x4096x2048 .f32) (scale shift : FVec Ideal S4x1x2048 .f32) : FVec Ideal S4x4096x2048 .f32 :=
  addf (mulf y (broadcastInDim S4x4096x2048 ![0, 1, 2] bcast_S4x1x2048_S4x4096x2048_0_1_2 (addf (broadcastInDim S4x1x2048 ![] bcast_S_S4x1x2048 (constant S_ .f32 0x3F800000#32)) scale))) (broadcastInDim S4x4096x2048 ![0, 1, 2] bcast_S4x1x2048_S4x4096x2048_0_1_2 shift)

/-- The batches' rows one after another. -/
def flat (x : FVec Ideal S4x4096x2048 .f32) : FVec Ideal S16384x2048 .f32 := shapeCast _ x shapeCasts_S4x4096x2048_S16384x2048

/-- An element of the normed array is one of its normed row. -/
theorem norm_at (x : FVec Ideal S4x4096x2048 .f32) (g : FVec Ideal S2048 .f32) (b : Fin 4) (s : Fin 4096) (d : Fin 2048) :
    norm x g (ix3 b s d) = rms (fun k => x (ix3 b s k)) d * g (ix1 d) := by
  pointwise [norm, rms]

/-- An element of the residual sum. -/
theorem add_at (wt : BitVec 32) (x : FVec Ideal S4x4096x2048 .f32) (gate : FVec Ideal S4x1x2048 .f32) (y : FVec Ideal S4x4096x2048 .f32)
    (b : Fin 4) (s : Fin 4096) (d : Fin 2048) :
    add wt x gate y (ix3 b s d) = x (ix3 b s d) + Ideal.ofBits .f32 wt * gate (ix3 b 0 d) * y (ix3 b s d) := by
  pointwise [add]

/-- An element of the scaled and shifted array. -/
theorem modulate_at (y : FVec Ideal S4x4096x2048 .f32) (scale shift : FVec Ideal S4x1x2048 .f32) (b : Fin 4) (s : Fin 4096) (d : Fin 2048) :
    modulate y scale shift (ix3 b s d) = y (ix3 b s d) * (1 + scale (ix3 b 0 d)) + shift (ix3 b 0 d) := by
  pointwise [modulate]

/-- Row `r` of the flat array is row `r % 4096` of batch `r / 4096`. -/
theorem flat_at (x : FVec Ideal S4x4096x2048 .f32) (r : Fin 16384) (d : Fin 2048) :
    flat x (ix2 r d) = x (ix3 (⟨r.val / 4096, by omega⟩ : Fin 4) (⟨r.val % 4096, Nat.mod_lt _ (by decide)⟩ : Fin 4096) d) := by
  pointwise [flat]

/-- The reference's residual sum, over the update `p` before its norm. -/
def stepped (wt : BitVec 32) (x : FVec Ideal S4x4096x2048 .f32) (gate : FVec Ideal S4x1x2048 .f32) (p : FVec Ideal S4x4096x2048 .f32) (g : FVec Ideal S2048 .f32) :
    FVec Ideal S4x4096x2048 .f32 := add wt x gate (norm p g)

/-- It is the row's function of every row. -/
theorem stepped_at (wt : BitVec 32) (x : FVec Ideal S4x4096x2048 .f32) (gate : FVec Ideal S4x1x2048 .f32) (p : FVec Ideal S4x4096x2048 .f32) (g : FVec Ideal S2048 .f32)
    (b : Fin 4) (s : Fin 4096) (d : Fin 2048) :
    stepped wt x gate p g (ix3 b s d) = upd wt (fun k => x (ix3 b s k)) (fun k => gate (ix3 b 0 k)) (fun k => p (ix3 b s k)) (fun k => g (ix1 k)) d := by
  unfold stepped upd
  rw [add_at, norm_at]

/-- So is the next sublayer's input. -/
theorem next_at (x : FVec Ideal S4x4096x2048 .f32) (g : FVec Ideal S2048 .f32) (scale shift : FVec Ideal S4x1x2048 .f32) (b : Fin 4) (s : Fin 4096) (d : Fin 2048) :
    modulate (norm x g) scale shift (ix3 b s d)
      = nxt (fun k => x (ix3 b s k)) (fun k => g (ix1 k)) (fun k => scale (ix3 b 0 k)) (fun k => shift (ix3 b 0 k)) d := by
  unfold nxt
  rw [modulate_at, norm_at]

/-- The reference's residual sum, row after row. -/
def summed (wt : BitVec 32) (x : FVec Ideal S4x4096x2048 .f32) (gate : FVec Ideal S4x1x2048 .f32) (p : FVec Ideal S4x4096x2048 .f32) (g : FVec Ideal S2048 .f32) :
    FVec Ideal S16384x2048 .f32 := flat (stepped wt x gate p g)

/-- The row that the residual sum has at row `r` of the flat array. -/
def sumRow (wt : BitVec 32) (x : FVec Ideal S4x4096x2048 .f32) (gate : FVec Ideal S4x1x2048 .f32) (p : FVec Ideal S4x4096x2048 .f32) (g : FVec Ideal S2048 .f32)
    (r : Fin 16384) : Fin 2048 → EReal :=
  upd wt (fun k => x (ix3 (⟨r.val / 4096, by omega⟩ : Fin 4) (⟨r.val % 4096, Nat.mod_lt _ (by decide)⟩ : Fin 4096) k))
    (fun k => gate (ix3 (⟨r.val / 4096, by omega⟩ : Fin 4) 0 k))
    (fun k => p (ix3 (⟨r.val / 4096, by omega⟩ : Fin 4) (⟨r.val % 4096, Nat.mod_lt _ (by decide)⟩ : Fin 4096) k)) (fun k => g (ix1 k))

/-- It is that row. -/
theorem summed_at (wt : BitVec 32) (x : FVec Ideal S4x4096x2048 .f32) (gate : FVec Ideal S4x1x2048 .f32) (p : FVec Ideal S4x4096x2048 .f32) (g : FVec Ideal S2048 .f32)
    (r : Fin 16384) (d : Fin 2048) : summed wt x gate p g (ix2 r d) = sumRow wt x gate p g r d :=
  (flat_at _ r d).trans (stepped_at wt x gate p g _ _ d)

/-- The reference's input of the next sublayer, row after row. -/
def onward (wt : BitVec 32) (x : FVec Ideal S4x4096x2048 .f32) (gate : FVec Ideal S4x1x2048 .f32) (p : FVec Ideal S4x4096x2048 .f32) (g g' : FVec Ideal S2048 .f32)
    (scale shift : FVec Ideal S4x1x2048 .f32) : FVec Ideal S16384x2048 .bf16 :=
  truncf .bf16 (flat (modulate (norm (stepped wt x gate p g) g') scale shift)) (by decide)

/-- It is the row's function of the residual sum's row. -/
theorem onward_at (wt : BitVec 32) (x : FVec Ideal S4x4096x2048 .f32) (gate : FVec Ideal S4x1x2048 .f32) (p : FVec Ideal S4x4096x2048 .f32) (g g' : FVec Ideal S2048 .f32)
    (scale shift : FVec Ideal S4x1x2048 .f32) (r : Fin 16384) (d : Fin 2048) :
    onward wt x gate p g g' scale shift (ix2 r d)
      = nxt (sumRow wt x gate p g r) (fun k => g' (ix1 k)) (fun k => scale (ix3 (⟨r.val / 4096, by omega⟩ : Fin 4) 0 k))
          (fun k => shift (ix3 (⟨r.val / 4096, by omega⟩ : Fin 4) 0 k)) d := by
  refine (flat_at _ r d).trans ((next_at _ g' scale shift _ _ d).trans ?_)
  congr 1
  funext k
  exact stepped_at wt x gate p g _ _ k

/-- A gain as an array of one row. -/
def oneRow (g : FVec Ideal S2048 .f32) : FVec Ideal (⟨2, ![1, 2048]⟩ : Shape) .f32 := shapeCast (⟨2, ![1, 2048]⟩ : Shape) g (by decide)

/-- Its element at a component. -/
theorem oneRow_at (g : FVec Ideal S2048 .f32) (d : Fin 2048) : oneRow g (ix2 0 d) = g (ix1 d) := by
  pointwise [oneRow]

/-- The feed-forward part's hidden rows, batch after batch. -/
def hidden (h : FVec Ideal S4x4096x5632 .f32) : FVec Ideal (⟨2, ![16384, 5632]⟩ : Shape) .bf16 :=
  truncf .bf16 (shapeCast (⟨2, ![16384, 5632]⟩ : Shape) h (by decide)) (by decide)

/-- Their element at a row. -/
theorem hidden_at (h : FVec Ideal S4x4096x5632 .f32) (r : Fin 16384) (k : Fin 5632) :
    hidden h (ix2 r k) = h (ix3 (⟨r.val / 4096, by omega⟩ : Fin 4) (⟨r.val % 4096, Nat.mod_lt _ (by decide)⟩ : Fin 4096) k) := by
  pointwise [hidden]

/-- The feed-forward part's second product. -/
def down (h : FVec Ideal S4x4096x5632 .f32) (wd : FVec Ideal S5632x2048 .f32) : FVec Ideal S4x4096x2048 .f32 :=
  Host.dotGeneral dot_S4x4096x5632_S5632x2048_S4x4096x2048_2_0_01_1_n_n none h wd

/-- It is a sum over the hidden components. -/
theorem down_at (h : FVec Ideal S4x4096x5632 .f32) (wd : FVec Ideal S5632x2048 .f32) (b : Fin 4) (s : Fin 4096) (d : Fin 2048) :
    down h wd (ix3 b s d) = ∑ k : Fin 5632, h (ix3 b s k) * wd (ix2 k d) := by
  pointwise [down]

end Cert.Row

end
-- ==== Proof.Ffn.Tile.lean ====
/- What the bodies of the three calls that follow a product compute on a tile of 256 rows: the residual sum and the next
   sublayer's input. Both are functions of the tile's product, whatever its inner length, so each is read at an index once. -/
module

public import proofs.«01_k».proof.Proof.Gen.Kernel3Ideal.Skeleton
public import proofs.«01_k».proof.Proof.Ffn.Row

@[expose] public section

set_option maxRecDepth 16384

noncomputable section

namespace Cert.Tile

open Cert.Kernel3Ideal Cert.Kernel3Ideal.Gen Idealize.ShloMosaic Idealize.ShloMosaic.TcCoe Idealize.ShloMosaic.Tactic Idealize.SL.Sem
open Cert.Row

/-- A tile's rows divided by the roots of their mean squares. -/
def normed (y : FVec Ideal S256x2048 .f32) : FVec Ideal S256x2048 .f32 :=
  mulf y (broadcastTo S256x2048 (rsqrt (addf (divf
    (shapeCast S256x1 (multiReduction .add [1] S256 (mulf y y) 0x00000000#32 reduces_S256x2048_S256 (.inl rfl) rfl) shapeCasts_S256_S256x1)
    (broadcast S256x1 (Scalar.ofBits .f32 0x45000000#32))) (broadcast S256x1 (Scalar.ofBits .f32 0x358637BD#32)))) broadcasts_S256x1_S256x2048)

/-- The residual sum on a tile, from the tile's product `y`. -/
def update (wt : BitVec 32) (y : FVec Ideal S256x2048 .f32) (g : Vec Ideal S1x2048 .f32) (x : Vec Ideal S256x2048 .f32) (gate : Vec Ideal S1x1x2048 .f32) :
    FVec Ideal S256x2048 .f32 :=
  addf (shapeCast S256x2048 x shapeCasts_S256x2048_S256x2048)
    (mulf (broadcastTo S256x2048 (mulf (broadcast S1x2048 (Scalar.ofBits .f32 wt)) (shapeCast S1x2048 gate shapeCasts_S1x1x2048_S1x2048)) broadcasts_S1x2048_S256x2048)
      (mulf (normed y) (broadcastTo S256x2048 (shapeCast S1x2048 g shapeCasts_S1x2048_S1x2048) broadcasts_S1x2048_S256x2048)))

/-- A row of a tile, normed. -/
theorem normed_at (y : FVec Ideal S256x2048 .f32) (a : Fin 256) (d : Fin 2048) : normed y (ix2 a d) = rms (fun k => y (ix2 a k)) d := by
  pointwise [normed, rms]

/-- Where the tile's row `a` is the array's row `r`, in the product and in every block, the tile's residual sum is the
    reference's. -/
theorem update_at (wt : BitVec 32) (x : FVec Ideal S4x4096x2048 .f32) (gate : FVec Ideal S4x1x2048 .f32) (p : FVec Ideal S4x4096x2048 .f32) (g : FVec Ideal S2048 .f32)
    (y : FVec Ideal S256x2048 .f32) (gb : Vec Ideal S1x2048 .f32) (xb : Vec Ideal S256x2048 .f32) (ab : Vec Ideal S1x1x2048 .f32) (a : Fin 256) (r : Fin 16384)
    (hy : ∀ k, y (ix2 a k) = p (ix3 (⟨r.val / 4096, by omega⟩ : Fin 4) (⟨r.val % 4096, Nat.mod_lt _ (by decide)⟩ : Fin 4096) k))
    (hg : ∀ k, gb (ix2 0 k) = g (ix1 k))
    (hx : ∀ k, xb (ix2 a k) = x (ix3 (⟨r.val / 4096, by omega⟩ : Fin 4) (⟨r.val % 4096, Nat.mod_lt _ (by decide)⟩ : Fin 4096) k))
    (ha : ∀ k, ab (ix3 0 0 k) = gate (ix3 (⟨r.val / 4096, by omega⟩ : Fin 4) 0 k)) (d : Fin 2048) :
    update wt y gb xb ab (ix2 a d) = summed wt x gate p g (ix2 r d) := by
  have e : update wt y gb xb ab (ix2 a d) = upd wt (fun k => xb (ix2 a k)) (fun k => ab (ix3 0 0 k)) (fun k => y (ix2 a k)) (fun k => gb (ix2 0 k)) d := by
    unfold upd
    rw [← normed_at]
    unfold update
    generalize normed y = n
    pointwise
  rw [e, summed_at, funext hx, funext ha, funext hy, funext hg]
  rfl

/-- Where the tile's residual sum is the reference's at row `r`, so is the next sublayer's input. -/
theorem next_at (wt : BitVec 32) (x : FVec Ideal S4x4096x2048 .f32) (gate : FVec Ideal S4x1x2048 .f32) (p : FVec Ideal S4x4096x2048 .f32) (g g' : FVec Ideal S2048 .f32)
    (scale shift : FVec Ideal S4x1x2048 .f32) (z : FVec Ideal S256x2048 .f32) (gb : Vec Ideal S1x2048 .f32) (sb fb : Vec Ideal S1x1x2048 .f32) (a : Fin 256) (r : Fin 16384)
    (hz : ∀ k, z (ix2 a k) = summed wt x gate p g (ix2 r k))
    (hg : ∀ k, gb (ix2 0 k) = g' (ix1 k))
    (hs : ∀ k, sb (ix3 0 0 k) = scale (ix3 (⟨r.val / 4096, by omega⟩ : Fin 4) 0 k))
    (hf : ∀ k, fb (ix3 0 0 k) = shift (ix3 (⟨r.val / 4096, by omega⟩ : Fin 4) 0 k)) (d : Fin 2048) :
    k0_pay1 (F := Ideal) (normed z) gb sb fb (ix2 a d) = onward wt x gate p g g' scale shift (ix2 r d) := by
  have e : k0_pay1 (F := Ideal) (normed z) gb sb fb (ix2 a d)
      = nxt (fun k => z (ix2 a k)) (fun k => gb (ix2 0 k)) (fun k => sb (ix3 0 0 k)) (fun k => fb (ix3 0 0 k)) d := by
    unfold nxt
    rw [← normed_at]
    generalize normed z = n
    pointwise [k0_pay1]
  rw [e, onward_at, funext hg, funext hs, funext hf, funext fun k => (hz k).trans (summed_at wt x gate p g r k)]

/-- A tile whose rows are the rows of an array from `256 t` on agrees with the array wherever the tile's index is placed. -/
theorem place {α : Type} (z : S256x2048.Idx → α) (G : S16384x2048.Idx → α) (t : Nat) (y : S256x2048.Idx) (i : S16384x2048.Idx)
    (hz : ∀ (a : Fin 256) (r : Fin 16384), r.val = t * 256 + a.val → ∀ d : Fin 2048, z (ix2 a d) = G (ix2 r d))
    (h0 : (i 0).val = t * 256 + (y 0).val) (h1 : (i 1).val = (y 1).val) : z y = G i := by
  have hy : (ix2 (y 0) (y 1) : S256x2048.Idx) = y := by blk_ext
  have hi : (ix2 (i 0) (y 1) : S16384x2048.Idx) = i := by blk_ext [h1]
  have key := hz (y 0) (i 0) h0 (y 1)
  rw [hy] at key
  exact key.trans (congrArg G hi)

/-- The product of the feed-forward part's second calls on a tile. -/
def down (h : Vec Ideal S256x5632 .bf16) (w : Vec Ideal S5632x2048 .bf16) : FVec Ideal S256x2048 .f32 :=
  matmul dot_S256x5632_S5632x2048_S256x2048_1_0_0_1_n_n none (shapeCast S256x5632 h shapeCasts_S256x5632_S256x5632 : FVec Ideal S256x5632 .bf16)
    (shapeCast S5632x2048 w shapeCasts_S5632x2048_S5632x2048 : FVec Ideal S5632x2048 .bf16) (constant S256x2048 .f32 0x00000000#32)

/-- Where the tile's row is a row of the hidden rows, its product is the reference's. -/
theorem down_at (h : Vec Ideal S256x5632 .bf16) (w : Vec Ideal S5632x2048 .bf16) (H : FVec Ideal S4x4096x5632 .f32) (W : FVec Ideal S5632x2048 .f32)
    (a : Fin 256) (b : Fin 4) (s : Fin 4096) (hh : ∀ e, h (ix2 a e) = H (ix3 b s e)) (hw : ∀ e k, w (ix2 e k) = W (ix2 e k)) (k : Fin 2048) :
    down h w (ix2 a k) = Row.down H W (ix3 b s k) := by
  have e : down h w (ix2 a k) = ∑ e : Fin 5632, h (ix2 a e) * w (ix2 e k) := by
    pointwise [down]
  rw [e, Row.down_at]
  exact Finset.sum_congr rfl fun e _ => congrArg₂ (· * ·) (hh e) (hw e k)

end Cert.Tile

end
-- ==== Proof.Ffn.Down.lean ====
/- The feed-forward part's second call, between two sublayers: what it leaves of the residual sum and of the next
   sublayer's input is what the plain formula says. -/
module

public import proofs.«01_k».proof.Proof.Gen.Kernel3Ideal.Value
public import proofs.«01_k».proof.Proof.Ffn.Tile

@[expose] public section

set_option maxRecDepth 16384

noncomputable section

namespace Cert.Kernel3Ideal.Down

open Cert.Kernel3Ideal Cert.Kernel3Ideal.Gen Idealize.ShloMosaic Idealize.ShloMosaic.TcCoe Idealize.ShloMosaic.Tactic Idealize.SL.Sem
open Cert.Row

variable (m : (ℓ : Loc nD τ sig) → Buf (Elt Ideal) ℓ)

/-- The residual sum that the plain formula gives for the program's arguments. -/
def sum (c : Dev nD) : FVec Ideal S16384x2048 .f32 :=
  summed 0x3F000000#32 (m ((c : Thread nD τ).loc main_arg2)) (m ((c : Thread nD τ).loc main_arg4))
    (down (m ((c : Thread nD τ).loc main_arg0)) (m ((c : Thread nD τ).loc main_arg1))) (m ((c : Thread nD τ).loc main_arg3))

/-- The next sublayer's input that it gives. -/
def next (c : Dev nD) : FVec Ideal S16384x2048 .bf16 :=
  onward 0x3F000000#32 (m ((c : Thread nD τ).loc main_arg2)) (m ((c : Thread nD τ).loc main_arg4))
    (down (m ((c : Thread nD τ).loc main_arg0)) (m ((c : Thread nD τ).loc main_arg1))) (m ((c : Thread nD τ).loc main_arg3))
    (m ((c : Thread nD τ).loc main_arg5)) (m ((c : Thread nD τ).loc main_arg6)) (m ((c : Thread nD τ).loc main_arg7))

/-- Where each window's block sits. -/
theorem idx : ∀ t : Fin cfg0.N, win0_0.index t = ![t.val, 0] ∧ win0_1.index t = ![0, 0] ∧ win0_2.index t = ![t.val, 0] ∧ win0_3.index t = ![0, 0]
    ∧ win0_4.index t = ![t.val / 16, 0, 0] ∧ win0_5.index t = ![0, 0] ∧ win0_6.index t = ![t.val / 16, 0, 0] ∧ win0_7.index t = ![t.val / 16, 0, 0]
    ∧ win0_8.index t = ![t.val, 0] ∧ win0_9.index t = ![t.val, 0] ∧ t.val < 64 :=
  (by decide +kernel : ∀ t : Fin grid0.N, _)

open StableHlo in
/-- What the host puts into the windows' arrays: the hidden rows, the weight, the residual rows and the two gains. -/
theorem host (c : Dev nD) :
    V m c (Pipeline.arrRef spec0 0) = hidden (m ((c : Thread nD τ).loc main_arg0))
    ∧ V m c (Pipeline.arrRef spec0 1) = (truncf .bf16 (m ((c : Thread nD τ).loc main_arg1) : FVec Ideal S5632x2048 .f32) bitsLt_bf16_f32 : FVec Ideal S5632x2048 .bf16)
    ∧ V m c (Pipeline.arrRef spec0 2) = flat (m ((c : Thread nD τ).loc main_arg2))
    ∧ V m c (Pipeline.arrRef spec0 3) = oneRow (m ((c : Thread nD τ).loc main_arg3))
    ∧ V m c (Pipeline.arrRef spec0 5) = oneRow (m ((c : Thread nD τ).loc main_arg5)) := by
  change StableHlo.after hostOps0 _ (Proc.devRef .tc main_v1) = _ ∧ StableHlo.after hostOps0 _ (Proc.devRef .tc main_v3) = _
    ∧ StableHlo.after hostOps0 _ (Proc.devRef .tc main_v2) = _ ∧ StableHlo.after hostOps0 _ (Proc.devRef .tc main_v4) = _
    ∧ StableHlo.after hostOps0 _ (Proc.devRef .tc main_v5) = _
  refine ⟨?_, ?_, ?_, ?_, ?_⟩ <;>
    simp (disch := decide) only [after_cons, after_nil, unary_result', reshape_result', unary_result_ne', reshape_result_ne'] <;> rfl

/-- The blocks of point `t` that the residual sum takes, at the tile's row `a`, which is row `r` of the arrays. -/
theorem blocks (c : Dev nD) (t : Fin cfg0.N) (a : Fin 256) (r : Fin 16384) (hr : r.val = t.val * 256 + a.val) :
    (∀ k, iblk m c 0 t (ix2 a k) = m ((c : Thread nD τ).loc main_arg0) (ix3 (⟨r.val / 4096, by omega⟩ : Fin 4) (⟨r.val % 4096, Nat.mod_lt _ (by decide)⟩ : Fin 4096) k))
    ∧ (∀ k d, iblk m c 1 t (ix2 k d) = m ((c : Thread nD τ).loc main_arg1) (ix2 k d))
    ∧ (∀ k, iblk m c 2 t (ix2 a k) = m ((c : Thread nD τ).loc main_arg2) (ix3 (⟨r.val / 4096, by omega⟩ : Fin 4) (⟨r.val % 4096, Nat.mod_lt _ (by decide)⟩ : Fin 4096) k))
    ∧ (∀ k, iblk m c 3 t (ix2 0 k) = m ((c : Thread nD τ).loc main_arg3) (ix1 k))
    ∧ (∀ k, iblk m c 4 t (ix3 0 0 k) = m ((c : Thread nD τ).loc main_arg4) (ix3 (⟨r.val / 4096, by omega⟩ : Fin 4) 0 k)) := by
  obtain ⟨e0, e1, e2, e3, e4, -, -, -, -, -, ht⟩ := idx t
  obtain ⟨v0, v1, v2, v3, -⟩ := host m c
  have hb : r.val / 4096 = t.val / 16 := by omega
  refine ⟨fun k => ?_, fun k d => ?_, fun k => ?_, fun k => ?_, fun k => ?_⟩ <;> unfold iblk
  · rw [v0]
    exact (congrArg (hidden _) (by blk_ext [e0, hr])).trans (hidden_at _ r k)
  · rw [v1]
    exact congrArg (m ((c : Thread nD τ).loc main_arg1)) (by blk_ext [e1])
  · rw [v2]
    exact (congrArg (flat _) (by blk_ext [e2, hr])).trans (flat_at _ r k)
  · rw [v3]
    exact (congrArg (oneRow _) (by blk_ext [e3])).trans (oneRow_at _ k)
  · exact congrArg (m ((c : Thread nD τ).loc main_arg4)) (by blk_ext [e4, hb])

/-- The blocks that the next sublayer's norm takes: its gain, its scale and its shift. -/
theorem norm_blocks (c : Dev nD) (t : Fin cfg0.N) (b : Fin 4) (hb : b.val = t.val / 16) :
    (∀ k, iblk m c 5 t (ix2 0 k) = m ((c : Thread nD τ).loc main_arg5) (ix1 k))
    ∧ (∀ k, iblk m c 6 t (ix3 0 0 k) = m ((c : Thread nD τ).loc main_arg6) (ix3 b 0 k))
    ∧ (∀ k, iblk m c 7 t (ix3 0 0 k) = m ((c : Thread nD τ).loc main_arg7) (ix3 b 0 k)) := by
  obtain ⟨-, -, -, -, -, e5, e6, e7, -⟩ := idx t
  refine ⟨fun k => ?_, fun k => ?_, fun k => ?_⟩ <;> unfold iblk
  · rw [(host m c).2.2.2.2]
    exact (congrArg (oneRow _) (by blk_ext [e5])).trans (oneRow_at _ k)
  · exact congrArg (m ((c : Thread nD τ).loc main_arg6)) (by blk_ext [e6, hb])
  · exact congrArg (m ((c : Thread nD τ).loc main_arg7)) (by blk_ext [e7, hb])

/-- What a point computes of the residual sum, at a row of the array. -/
theorem sum_point (c : Dev nD) (t : Fin cfg0.N) (a : Fin 256) (r : Fin 16384) (hr : r.val = t.val * 256 + a.val) (d : Fin 2048) :
    k0_pay2 (F := Ideal) (iblk m c 0 t) (iblk m c 1 t) (iblk m c 3 t) (iblk m c 2 t) (iblk m c 4 t) (ix2 a d) = sum m c (ix2 r d) := by
  obtain ⟨b0, b1, b2, b3, b4⟩ := blocks m c t a r hr
  exact Tile.update_at 0x3F000000#32 _ _ _ _ (Tile.down (iblk m c 0 t) (iblk m c 1 t)) _ _ _ a r (Tile.down_at _ _ _ _ a _ _ b0 b1) b3 b2 b4 d

/-- What a point computes of the next input, at a row of the array. -/
theorem next_point (c : Dev nD) (t : Fin cfg0.N) (a : Fin 256) (r : Fin 16384) (hr : r.val = t.val * 256 + a.val) (d : Fin 2048) :
    k0_pay1 (F := Ideal) (k0_pay3 (F := Ideal) (iblk m c 0 t) (iblk m c 1 t) (iblk m c 3 t) (iblk m c 2 t) (iblk m c 4 t))
      (iblk m c 5 t) (iblk m c 6 t) (iblk m c 7 t) (ix2 a d) = next m c (ix2 r d) := by
  have ht : t.val < 64 := (idx t).2.2.2.2.2.2.2.2.2.2
  obtain ⟨b5, b6, b7⟩ := norm_blocks m c t (⟨r.val / 4096, by omega⟩ : Fin 4) (by show r.val / 4096 = t.val / 16; omega)
  exact Tile.next_at 0x3F000000#32 _ _ _ _ _ _ _ (k0_pay2 (F := Ideal) (iblk m c 0 t) (iblk m c 1 t) (iblk m c 3 t) (iblk m c 2 t) (iblk m c 4 t))
    _ _ _ a r (sum_point m c t a r hr) b5 b6 b7 d

/-- The first array after the run is the reference's residual sum. -/
theorem final_sum (c : Dev nD) : (dats m 0 c).arrAt 8 (cfgs 0).N = sum m c := by
  refine (dats m 0 c).arrAt_eq_of_covers 8 _ (by decide +kernel) fun t _ y => ?_
  blk_simp
  rw [after0_8]
  frame_out
  obtain ⟨-, -, -, -, -, -, -, -, e, -, ht⟩ := idx t
  refine Tile.place _ _ t.val y _ (sum_point m c t) ?_ ?_ <;> simp [e] <;> omega

/-- The second is the reference's input of the next sublayer. -/
theorem final_next (c : Dev nD) : (dats m 0 c).arrAt 9 (cfgs 0).N = next m c := by
  refine (dats m 0 c).arrAt_eq_of_covers 9 _ (by decide +kernel) fun t _ y => ?_
  blk_simp
  rw [after0_9]
  frame_out
  obtain ⟨-, -, -, -, -, -, -, -, -, e, ht⟩ := idx t
  refine Tile.place _ _ t.val y _ (next_point m c t) ?_ ?_ <;> simp [e] <;> omega

end Cert.Kernel3Ideal.Down

end
-- ==== Proof.Ffn.Merge.lean ====
/- The merge of the four mixers: what its scratch arrays hold, and that its result is the gated sum of the plain formula. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.Reference4Ideal.Merge

open Cert.Reference4Ideal Cert.Reference4Ideal.Gen Idealize.ShloMosaic Idealize.ShloMosaic.TcCoe Idealize.ShloMosaic.Tactic Idealize.SL.Sem

/-- The sum over the four branches of the logistic of `s` times `p`. -/
def mixed (s p : Fin 4 → EReal) : EReal :=
  Ideal.logistic (s 0) * p 0 + Ideal.logistic (s 1) * p 1 + Ideal.logistic (s 2) * p 2 + Ideal.logistic (s 3) * p 3

/-- The reference's gates of all four branches. -/
def gates (u : FVec Ideal S4x4096x2048 .f32) (wg : FVec Ideal S2048x8192 .f32) : FVec Ideal S4x4096x4x2048 .f32 :=
  Host.divf (broadcastInDim S4x4096x4x2048 ![] bcast_S_S4x4096x4x2048 (constant S_ .f32 0x3F800000#32)) (addf (broadcastInDim S4x4096x4x2048 ![] bcast_S_S4x4096x4x2048 (constant S_ .f32 0x3F800000#32)) (Host.exp (Host.negf (shapeCast _ (Host.dotGeneral dot_S4x4096x2048_S2048x8192_S4x4096x8192_2_0_01_1_n_n none u wg) shapeCasts_S4x4096x8192_S4x4096x4x2048))))

/-- The gate of branch `i` is the logistic of a sum over the weight's columns from `2048 i`. -/
theorem gates_at (u : FVec Ideal S4x4096x2048 .f32) (wg : FVec Ideal S2048x8192 .f32) (b : Fin 4) (s : Fin 4096) (i : Fin 4) (d : Fin 2048) :
    gates u wg (ix4 b s i d) = Ideal.logistic (∑ k : Fin 2048, u (ix3 b s k) * wg (ix2 k (⟨i.val * 2048 + d.val, by omega⟩ : Fin 8192))) := by
  pointwise [gates, Ideal.logistic]

/-- The reference's product of one branch with its weight, the `off`-th of the four. -/
def branch (off : Fin 3 → ℕ) (h : S4x512x2048.Slices off S1x512x2048) (y : FVec Ideal S4x4096x512 .f32) (wb : FVec Ideal S4x512x2048 .f32) : FVec Ideal S4x4096x2048 .f32 :=
  Host.dotGeneral dot_S4x4096x512_S512x2048_S4x4096x2048_2_0_01_1_n_n none y (shapeCast _ (extractStridedSlice S1x512x2048 off wb h) shapeCasts_S1x512x2048_S512x2048)

/-- The reference's gate of one branch. -/
def gate (off : Fin 4 → ℕ) (h : S4x4096x4x2048.Slices off S4x4096x1x2048) (g : FVec Ideal S4x4096x4x2048 .f32) : FVec Ideal S4x4096x2048 .f32 :=
  shapeCast _ (extractStridedSlice S4x4096x1x2048 off g h) shapeCasts_S4x4096x1x2048_S4x4096x2048

/-- The batches' rows one after another. -/
def rows (x : FVec Ideal S4x4096x2048 .f32) : FVec Ideal S16384x2048 .f32 := shapeCast _ x shapeCasts_S4x4096x2048_S16384x2048

/-- Row `r` of them is row `r % 4096` of batch `r / 4096`. -/
theorem rows_at (x : FVec Ideal S4x4096x2048 .f32) (r : Fin 16384) (d : Fin 2048) :
    rows x (ix2 r d) = x (ix3 (⟨r.val / 4096, by omega⟩ : Fin 4) (⟨r.val % 4096, Nat.mod_lt _ (by decide)⟩ : Fin 4096) d) := by
  pointwise [rows]

/-- The reference's merged rows. -/
def plain (u : FVec Ideal S4x4096x2048 .f32) (wg : FVec Ideal S2048x8192 .f32) (y0 y1 y2 y3 : FVec Ideal S4x4096x512 .f32) (wb : FVec Ideal S4x512x2048 .f32) :
    FVec Ideal S16384x2048 .bf16 :=
  truncf .bf16 (shapeCast _ (addf (addf (addf (mulf (gate ![0, 0, 0, 0] slices_S4x4096x4x2048_S4x4096x1x2048_0_0_0_0 (gates u wg)) (branch ![0, 0, 0] slices_S4x512x2048_S1x512x2048_0_0_0 y0 wb)) (mulf (gate ![0, 0, 1, 0] slices_S4x4096x4x2048_S4x4096x1x2048_0_0_1_0 (gates u wg)) (branch ![1, 0, 0] slices_S4x512x2048_S1x512x2048_1_0_0 y1 wb))) (mulf (gate ![0, 0, 2, 0] slices_S4x4096x4x2048_S4x4096x1x2048_0_0_2_0 (gates u wg)) (branch ![2, 0, 0] slices_S4x512x2048_S1x512x2048_2_0_0 y2 wb))) (mulf (gate ![0, 0, 3, 0] slices_S4x4096x4x2048_S4x4096x1x2048_0_0_3_0 (gates u wg)) (branch ![3, 0, 0] slices_S4x512x2048_S1x512x2048_3_0_0 y3 wb))) shapeCasts_S4x4096x2048_S16384x2048) bitsLt_bf16_f32

/-- The reference at a row and a component, over the gates. -/
theorem plain_over (g : FVec Ideal S4x4096x4x2048 .f32) (y0 y1 y2 y3 : FVec Ideal S4x4096x512 .f32) (wb : FVec Ideal S4x512x2048 .f32) (b : Fin 4) (s : Fin 4096) (d : Fin 2048) :
    addf (addf (addf (mulf (gate ![0, 0, 0, 0] slices_S4x4096x4x2048_S4x4096x1x2048_0_0_0_0 g) (branch ![0, 0, 0] slices_S4x512x2048_S1x512x2048_0_0_0 y0 wb)) (mulf (gate ![0, 0, 1, 0] slices_S4x4096x4x2048_S4x4096x1x2048_0_0_1_0 g) (branch ![1, 0, 0] slices_S4x512x2048_S1x512x2048_1_0_0 y1 wb))) (mulf (gate ![0, 0, 2, 0] slices_S4x4096x4x2048_S4x4096x1x2048_0_0_2_0 g) (branch ![2, 0, 0] slices_S4x512x2048_S1x512x2048_2_0_0 y2 wb))) (mulf (gate ![0, 0, 3, 0] slices_S4x4096x4x2048_S4x4096x1x2048_0_0_3_0 g) (branch ![3, 0, 0] slices_S4x512x2048_S1x512x2048_3_0_0 y3 wb)) (ix3 b s d)
      = g (ix4 b s 0 d) * (∑ e : Fin 512, y0 (ix3 b s e) * wb (ix3 0 e d)) + g (ix4 b s 1 d) * (∑ e : Fin 512, y1 (ix3 b s e) * wb (ix3 1 e d))
        + g (ix4 b s 2 d) * (∑ e : Fin 512, y2 (ix3 b s e) * wb (ix3 2 e d)) + g (ix4 b s 3 d) * (∑ e : Fin 512, y3 (ix3 b s e) * wb (ix3 3 e d)) := by
  pointwise [gate, branch]

/-- The reference at a row and a component. -/
theorem plain_at (u : FVec Ideal S4x4096x2048 .f32) (wg : FVec Ideal S2048x8192 .f32) (y : Fin 4 → FVec Ideal S4x4096x512 .f32) (wb : FVec Ideal S4x512x2048 .f32)
    (r : Fin 16384) (d : Fin 2048) :
    plain u wg (y 0) (y 1) (y 2) (y 3) wb (ix2 r d) = mixed
      (fun i => ∑ k : Fin 2048, u (ix3 (⟨r.val / 4096, by omega⟩ : Fin 4) (⟨r.val % 4096, Nat.mod_lt _ (by decide)⟩ : Fin 4096) k) * wg (ix2 k (⟨i.val * 2048 + d.val, by omega⟩ : Fin 8192)))
      (fun i => ∑ e : Fin 512, y i (ix3 (⟨r.val / 4096, by omega⟩ : Fin 4) (⟨r.val % 4096, Nat.mod_lt _ (by decide)⟩ : Fin 4096) e) * wb (ix3 i e d)) := by
  refine (rows_at _ r d).trans ((plain_over (gates u wg) _ _ _ _ wb _ _ d).trans ?_)
  rw [gates_at, gates_at, gates_at, gates_at]
  rfl

end Cert.Reference4Ideal.Merge

namespace Cert.Kernel4Ideal.Merge

open Cert.Kernel4Ideal Cert.Kernel4Ideal.Gen Idealize.ShloMosaic Idealize.ShloMosaic.TcCoe Idealize.ShloMosaic.Tactic Idealize.SL.Sem
open Idealize.ShloMosaic.Pipeline (Dat)

/-- The four blocks of gate weights one above another. -/
def stack (g : Fin 4 → Vec Ideal S2048x256 .f32) : Vec Ideal S4x2048x256 .bf16 := fun y => g (y 0) (ix2 (y 1) (y 2))

/-- A stored block is the part of the stack that its store covers. -/
theorem layer (g : Fin 4 → Vec Ideal S2048x256 .f32) (i : Fin 4) (off : Fin 3 → ℕ) (inb) (h : off = ![i.val, 0, 0])
    (x : (Rect.unit (s := S4x2048x256) off ![1, 2048, 256] inb).shape.Idx) :
    k0_pay2 (F := Ideal) (g i) x = stack g ((Rect.unit (s := S4x2048x256) off ![1, 2048, 256] inb).emb x) := by
  subst h
  obtain ⟨z, k, d, rfl⟩ : ∃ (z : Fin 1) (k : Fin 2048) (d : Fin 256), x = (ix3 z k d : S1x2048x256.Idx) := ⟨x 0, x 1, x 2, by blk_ext⟩
  refine Eq.trans (b := g i (ix2 k d)) (by pointwise [k0_pay2]) ?_
  refine (View.ld_unit_apply_of (Val := Elt Ideal) (e := .bf16) (stack g) _ _ inb (ix3 z k d) (ix3 i k d) fun a => ?_).symm
  fin_cases a <;> simp

/-- The four stores into the scratch array, the last first. -/
def stores (g : Fin 4 → Vec Ideal S2048x256 .f32) : List (View.Piece (Elt Ideal) S4x2048x256 .bf16) :=
  [⟨Rect.unit ![3, 0, 0] ![1, 2048, 256] inb_S4x2048x256_S1x2048x256_3_0_0, k0_pay5 (F := Ideal) (g 3)⟩,
    ⟨Rect.unit ![2, 0, 0] ![1, 2048, 256] inb_S4x2048x256_S1x2048x256_2_0_0, k0_pay4 (F := Ideal) (g 2)⟩,
    ⟨Rect.unit ![1, 0, 0] ![1, 2048, 256] inb_S4x2048x256_S1x2048x256_1_0_0, k0_pay3 (F := Ideal) (g 1)⟩,
    ⟨Rect.unit ![0, 0, 0] ![1, 2048, 256] inb_S4x2048x256_S1x2048x256_0_0_0, k0_pay2 (F := Ideal) (g 0)⟩]

/-- Each stores its part of the stack. -/
theorem stores_of (g : Fin 4 → Vec Ideal S2048x256 .f32) : View.PiecesOf (stack g) (stores g) :=
  ⟨fun x => layer g 3 ![3, 0, 0] inb_S4x2048x256_S1x2048x256_3_0_0 rfl x, fun x => layer g 2 ![2, 0, 0] inb_S4x2048x256_S1x2048x256_2_0_0 rfl x,
    fun x => layer g 1 ![1, 0, 0] inb_S4x2048x256_S1x2048x256_1_0_0 rfl x, fun x => layer g 0 ![0, 0, 0] inb_S4x2048x256_S1x2048x256_0_0_0 rfl x, trivial⟩

/-- Together they cover the array. -/
theorem stores_cover (g : Fin 4 → Vec Ideal S2048x256 .f32) (y : S4x2048x256.Idx) : ∃ p ∈ stores g, y ∈ p.1.set :=
  View.cover_of_tiledL (stores g) S1x2048x256.size (by sl_kernel_rfl) y

/-- So they leave the stack. -/
theorem stored (g : Fin 4 → Vec Ideal S2048x256 .f32) : View.canon (stores g) = stack g := by
  funext y
  have h := View.canon_append_of_piecesOf (stack g) [] (stores g) (stores_of g) y (stores_cover g y)
  rwa [List.append_nil] at h

/-- A load from the first scratch array after stores into it. -/
theorem loaded_g (L : List (View.Piece (Elt Ideal) S4x2048x256 .bf16)) (r : Rect S4x2048x256) :
    (View.whole cc0_scratch0).readCov L r.toLoadRect = View.ld (View.canon L) r :=
  View.readCov_eq_canon' _ L _

/-- A load from the second after a store of the whole. -/
theorem loaded_w (Z : Vec Ideal S4x512x256 .bf16) (r : Rect S4x512x256) :
    (View.whole cc0_scratch1).readCov [⟨Rect.unit ![0, 0, 0] ![4, 512, 256] inb_S4x512x256_S4x512x256_0_0_0, Z⟩] r.toLoadRect
      = View.ld (Val := Elt Ideal) (e' := .bf16) Z r := by
  have h : View.canon [(⟨Rect.unit ![0, 0, 0] ![4, 512, 256] inb_S4x512x256_S4x512x256_0_0_0, Z⟩ : View.Piece (Elt Ideal) S4x512x256 .bf16)] = Z :=
    View.canon_cons_unit_lit inb_S4x512x256_S4x512x256_0_0_0 Z [] (by decide)
  rw [View.readCov_eq_canon', h]
  rfl

/-- A load of one block of the stack. -/
theorem slab (g : Fin 4 → Vec Ideal S2048x256 .f32) (i : Fin 4) (off : Fin 3 → ℕ) (inb) (h : off = ![i.val, 0, 0]) (k : Fin 2048) (d : Fin 256) :
    View.ld (Val := Elt Ideal) (e' := .bf16) (stack g) (Rect.unit (s := S4x2048x256) off ![1, 2048, 256] inb) (ix3 0 k d) = g i (ix2 k d) := by
  subst h
  refine (View.ld_unit_apply_of (stack g) _ _ inb _ (ix3 i k d) fun a => ?_).trans ?_
  · fin_cases a <;> simp
  · rfl

/-- A load of one branch's weight. -/
theorem weight (wb : Vec Ideal S4x512x256 .f32) (i : Fin 4) (off : Fin 3 → ℕ) (inb) (h : off = ![i.val, 0, 0]) (k : Fin 512) (d : Fin 256) :
    View.ld (Val := Elt Ideal) (e' := .bf16) (k0_pay6 (F := Ideal) wb) (Rect.unit (s := S4x512x256) off ![1, 512, 256] inb) (ix3 0 k d) = wb (ix3 i k d) := by
  subst h
  refine (View.ld_unit_apply_of (Val := Elt Ideal) (e := .bf16) (k0_pay6 (F := Ideal) wb) _ _ inb _ (ix3 i k d) fun a => ?_).trans ?_
  · fin_cases a <;> simp
  · pointwise [k0_pay6]

/-- A row's sum with a load of one block of the stack. -/
theorem slab_sum (u : Vec Ideal S512x2048 .bf16) (g : Fin 4 → Vec Ideal S2048x256 .f32) (i : Fin 4) (off : Fin 3 → ℕ) (inb) (h : off = ![i.val, 0, 0]) (a : Fin 512) (d : Fin 256) :
    (∑ k : Fin 2048, u (ix2 a k) * View.ld (Val := Elt Ideal) (e' := .bf16) (stack g) (Rect.unit (s := S4x2048x256) off ![1, 2048, 256] inb) (ix3 0 k d))
      = ∑ k : Fin 2048, u (ix2 a k) * g i (ix2 k d) :=
  Finset.sum_congr rfl fun k _ => congrArg (u (ix2 a k) * ·) (slab g i off inb h k d)

/-- A row's sum with a load of one branch's weight. -/
theorem weight_sum (y : Vec Ideal S512x512 .bf16) (wb : Vec Ideal S4x512x256 .f32) (i : Fin 4) (off : Fin 3 → ℕ) (inb) (h : off = ![i.val, 0, 0]) (a : Fin 512) (d : Fin 256) :
    (∑ e : Fin 512, y (ix2 a e) * View.ld (Val := Elt Ideal) (e' := .bf16) (k0_pay6 (F := Ideal) wb) (Rect.unit (s := S4x512x256) off ![1, 512, 256] inb) (ix3 0 e d))
      = ∑ e : Fin 512, y (ix2 a e) * wb (ix3 i e d) :=
  Finset.sum_congr rfl fun e _ => congrArg (y (ix2 a e) * ·) (weight wb i off inb h e d)

/-- What the body stores, at a row and a column of the block. -/
theorem pay_at (u : Vec Ideal S512x2048 .bf16) (w0 w1 w2 w3 : Vec Ideal S1x2048x256 .bf16) (b0 b1 b2 b3 : Vec Ideal S1x512x256 .bf16)
    (y0 y1 y2 y3 : Vec Ideal S512x512 .bf16) (a : Fin 512) (d : Fin 256) :
    k0_pay1 (F := Ideal) (k0_pay7 (F := Ideal) u) (k0_pay8 (F := Ideal) u w0 y0 b0 w1 y1 b1) (k0_pay9 (F := Ideal) u w2) y2 b2 w3 y3 b3 (ix2 a d)
      = Cert.Reference4Ideal.Merge.mixed
          ![∑ k : Fin 2048, u (ix2 a k) * w0 (ix3 0 k d), ∑ k : Fin 2048, u (ix2 a k) * w1 (ix3 0 k d), ∑ k : Fin 2048, u (ix2 a k) * w2 (ix3 0 k d), ∑ k : Fin 2048, u (ix2 a k) * w3 (ix3 0 k d)]
          ![∑ e : Fin 512, y0 (ix2 a e) * b0 (ix3 0 e d), ∑ e : Fin 512, y1 (ix2 a e) * b1 (ix3 0 e d), ∑ e : Fin 512, y2 (ix2 a e) * b2 (ix3 0 e d), ∑ e : Fin 512, y3 (ix2 a e) * b3 (ix3 0 e d)] := by
  show _ = Ideal.logistic (∑ k : Fin 2048, u (ix2 a k) * w0 (ix3 0 k d)) * (∑ e : Fin 512, y0 (ix2 a e) * b0 (ix3 0 e d))
    + Ideal.logistic (∑ k : Fin 2048, u (ix2 a k) * w1 (ix3 0 k d)) * (∑ e : Fin 512, y1 (ix2 a e) * b1 (ix3 0 e d))
    + Ideal.logistic (∑ k : Fin 2048, u (ix2 a k) * w2 (ix3 0 k d)) * (∑ e : Fin 512, y2 (ix2 a e) * b2 (ix3 0 e d))
    + Ideal.logistic (∑ k : Fin 2048, u (ix2 a k) * w3 (ix3 0 k d)) * (∑ e : Fin 512, y3 (ix2 a e) * b3 (ix3 0 e d))
  pointwise [k0_pay1, k0_pay7, k0_pay8, k0_pay9]

/-- What the body stores, from its blocks and from what the scratch arrays hold. -/
def over (S : Vec Ideal S4x2048x256 .bf16) (W : Vec Ideal S4x512x256 .bf16) (u : Vec Ideal S512x2048 .bf16) (y : Fin 4 → Vec Ideal S512x512 .bf16) : Vec Ideal S512x256 .bf16 :=
  k0_pay1 (F := Ideal) (k0_pay7 (F := Ideal) u)
    (k0_pay8 (F := Ideal) u (View.ld (Val := Elt Ideal) (e' := .bf16) S (Rect.unit (s := S4x2048x256) ![0, 0, 0] ![1, 2048, 256] inb_S4x2048x256_S1x2048x256_0_0_0)) (y 0) (View.ld (Val := Elt Ideal) (e' := .bf16) W (Rect.unit (s := S4x512x256) ![0, 0, 0] ![1, 512, 256] inb_S4x512x256_S1x512x256_0_0_0))
      (View.ld (Val := Elt Ideal) (e' := .bf16) S (Rect.unit (s := S4x2048x256) ![1, 0, 0] ![1, 2048, 256] inb_S4x2048x256_S1x2048x256_1_0_0)) (y 1) (View.ld (Val := Elt Ideal) (e' := .bf16) W (Rect.unit (s := S4x512x256) ![1, 0, 0] ![1, 512, 256] inb_S4x512x256_S1x512x256_1_0_0)))
    (k0_pay9 (F := Ideal) u (View.ld (Val := Elt Ideal) (e' := .bf16) S (Rect.unit (s := S4x2048x256) ![2, 0, 0] ![1, 2048, 256] inb_S4x2048x256_S1x2048x256_2_0_0)))
    (y 2) (View.ld (Val := Elt Ideal) (e' := .bf16) W (Rect.unit (s := S4x512x256) ![2, 0, 0] ![1, 512, 256] inb_S4x512x256_S1x512x256_2_0_0))
    (View.ld (Val := Elt Ideal) (e' := .bf16) S (Rect.unit (s := S4x2048x256) ![3, 0, 0] ![1, 2048, 256] inb_S4x2048x256_S1x2048x256_3_0_0)) (y 3) (View.ld (Val := Elt Ideal) (e' := .bf16) W (Rect.unit (s := S4x512x256) ![3, 0, 0] ![1, 512, 256] inb_S4x512x256_S1x512x256_3_0_0))

/-- The same once the scratch arrays hold the stack and the branches' weights. -/
def body (u : Vec Ideal S512x2048 .bf16) (g : Fin 4 → Vec Ideal S2048x256 .f32) (y : Fin 4 → Vec Ideal S512x512 .bf16) (wb : Vec Ideal S4x512x256 .f32) : Vec Ideal S512x256 .bf16 :=
  over (stack g) (k0_pay6 (F := Ideal) wb) u y

/-- Its element at a row and a column. -/
theorem body_at (u : Vec Ideal S512x2048 .bf16) (g : Fin 4 → Vec Ideal S2048x256 .f32) (y : Fin 4 → Vec Ideal S512x512 .bf16) (wb : Vec Ideal S4x512x256 .f32) (a : Fin 512) (d : Fin 256) :
    body u g y wb (ix2 a d) = Cert.Reference4Ideal.Merge.mixed (fun i => ∑ k : Fin 2048, u (ix2 a k) * g i (ix2 k d)) (fun i => ∑ e : Fin 512, y i (ix2 a e) * wb (ix3 i e d)) := by
  refine (pay_at u _ _ _ _ _ _ _ _ (y 0) (y 1) (y 2) (y 3) a d).trans ?_
  rw [slab_sum u g 0 ![0, 0, 0] inb_S4x2048x256_S1x2048x256_0_0_0 rfl a d, slab_sum u g 1 ![1, 0, 0] inb_S4x2048x256_S1x2048x256_1_0_0 rfl a d,
    slab_sum u g 2 ![2, 0, 0] inb_S4x2048x256_S1x2048x256_2_0_0 rfl a d, slab_sum u g 3 ![3, 0, 0] inb_S4x2048x256_S1x2048x256_3_0_0 rfl a d,
    weight_sum (y 0) wb 0 ![0, 0, 0] inb_S4x512x256_S1x512x256_0_0_0 rfl a d, weight_sum (y 1) wb 1 ![1, 0, 0] inb_S4x512x256_S1x512x256_1_0_0 rfl a d,
    weight_sum (y 2) wb 2 ![2, 0, 0] inb_S4x512x256_S1x512x256_2_0_0 rfl a d, weight_sum (y 3) wb 3 ![3, 0, 0] inb_S4x512x256_S1x512x256_3_0_0 rfl a d]
  rfl

variable (m : (ℓ : Loc nD τ sig) → Buf (Elt Ideal) ℓ)

/-- Where each window's block sits. -/
theorem idx : ∀ t : Fin cfg0.N, win0_0.index t = ![t.val % 32, 0]
    ∧ (win0_1.index t = ![0, t.val / 32] ∧ win0_2.index t = ![0, 8 + t.val / 32] ∧ win0_3.index t = ![0, 16 + t.val / 32] ∧ win0_4.index t = ![0, 24 + t.val / 32])
    ∧ (win0_5.index t = ![t.val % 32, 0] ∧ win0_6.index t = ![t.val % 32, 0] ∧ win0_7.index t = ![t.val % 32, 0] ∧ win0_8.index t = ![t.val % 32, 0])
    ∧ win0_9.index t = ![0, 0, t.val / 32] ∧ win0_10.index t = ![t.val % 32, t.val / 32] ∧ t.val < 256 :=
  (by decide +kernel : ∀ t : Fin grid0.N, _)

/-! ## What the host prepares -/

/-- The activations' rows one after another. -/
def inputs (u : FVec Ideal S4x4096x2048 .f32) : FVec Ideal S16384x2048 .bf16 :=
  truncf .bf16 (shapeCast S16384x2048 u shapeCasts_S4x4096x2048_S16384x2048) bitsLt_bf16_f32

/-- Their element at a row. -/
theorem inputs_at (u : FVec Ideal S4x4096x2048 .f32) (r : Fin 16384) (k : Fin 2048) :
    inputs u (ix2 r k) = u (ix3 (⟨r.val / 4096, by omega⟩ : Fin 4) (⟨r.val % 4096, Nat.mod_lt _ (by decide)⟩ : Fin 4096) k) := by
  pointwise [inputs]

/-- A branch's rows one after another. -/
def branches (y : FVec Ideal S4x4096x512 .f32) : FVec Ideal S16384x512 .bf16 :=
  truncf .bf16 (shapeCast S16384x512 y shapeCasts_S4x4096x512_S16384x512) bitsLt_bf16_f32

/-- Their element at a row. -/
theorem branches_at (y : FVec Ideal S4x4096x512 .f32) (r : Fin 16384) (k : Fin 512) :
    branches y (ix2 r k) = y (ix3 (⟨r.val / 4096, by omega⟩ : Fin 4) (⟨r.val % 4096, Nat.mod_lt _ (by decide)⟩ : Fin 4096) k) := by
  pointwise [branches]

section
open StableHlo

/-- The first window's array holds the activations' rows. -/
theorem V_u (c : Dev nD) : V m c (Pipeline.arrRef spec0 0) = inputs (m ((c : Thread nD τ).loc main_arg0)) := by
  show StableHlo.after hostOps0 _ (Proc.devRef .tc main_v1) = _
  simp (disch := decide) only [after_cons, after_nil, unary_result', reshape_result', unary_result_ne', reshape_result_ne']
  rfl

/-- Those of the four branches hold their rows. -/
theorem V_y (c : Dev nD) :
    V m c (Pipeline.arrRef spec0 5) = branches (m ((c : Thread nD τ).loc main_arg2)) ∧ V m c (Pipeline.arrRef spec0 6) = branches (m ((c : Thread nD τ).loc main_arg3))
    ∧ V m c (Pipeline.arrRef spec0 7) = branches (m ((c : Thread nD τ).loc main_arg4)) ∧ V m c (Pipeline.arrRef spec0 8) = branches (m ((c : Thread nD τ).loc main_arg5)) := by
  change StableHlo.after hostOps0 _ (Proc.devRef .tc main_v3) = _ ∧ StableHlo.after hostOps0 _ (Proc.devRef .tc main_v5) = _
    ∧ StableHlo.after hostOps0 _ (Proc.devRef .tc main_v7) = _ ∧ StableHlo.after hostOps0 _ (Proc.devRef .tc main_v9) = _
  refine ⟨?_, ?_, ?_, ?_⟩ <;>
    simp (disch := decide) only [after_cons, after_nil, unary_result', reshape_result', unary_result_ne', reshape_result_ne'] <;> rfl

end

/-! ## A point's blocks -/

/-- The four blocks of gate weights that a point reads. -/
def gs (c : Dev nD) (t : Fin cfg0.N) : Fin 4 → Vec Ideal S2048x256 .f32 := ![iblk m c 1 t, iblk m c 2 t, iblk m c 3 t, iblk m c 4 t]

/-- The four branches' blocks that it reads. -/
def ys (c : Dev nD) (t : Fin cfg0.N) : Fin 4 → Vec Ideal S512x512 .bf16 := ![iblk m c 5 t, iblk m c 6 t, iblk m c 7 t, iblk m c 8 t]

/-- The four branches as the program has them. -/
def ins (c : Dev nD) : Fin 4 → FVec Ideal S4x4096x512 .f32 :=
  ![m ((c : Thread nD τ).loc main_arg2), m ((c : Thread nD τ).loc main_arg3), m ((c : Thread nD τ).loc main_arg4), m ((c : Thread nD τ).loc main_arg5)]

/-- An element of a block of rows, of any contents of the array. -/
theorem read_u (c : Dev nD) (t : Fin cfg0.N) (a : Fin 512) (k : Fin 2048) (r : Fin 16384) (hr : r.val = t.val % 32 * 512 + a.val)
    (X : Vec Ideal S16384x2048 .bf16) (hX : V m c (Pipeline.arrRef spec0 0) = X) : iblk m c 0 t (ix2 a k) = X (ix2 r k) := by
  have e := (idx t).1
  unfold iblk
  rw [hX]
  refine congrArg X ?_
  blk_ext [e, hr]

/-- An element of the blocks of gate weights. -/
theorem read_g (c : Dev nD) (t : Fin cfg0.N) (i : Fin 4) (k : Fin 2048) (b : Fin 256) (f : Fin 8192) (hf : f.val = i.val * 2048 + (t.val / 32 * 256 + b.val)) :
    gs m c t i (ix2 k b) = m ((c : Thread nD τ).loc main_arg1) (ix2 k f) := by
  obtain ⟨-, ⟨e1, e2, e3, e4⟩, -⟩ := idx t
  fin_cases i
  · show iblk m c 1 t (ix2 k b) = _
    blk_ext [iblk, V, e1, hf]
  · show iblk m c 2 t (ix2 k b) = _
    blk_ext [iblk, V, e2, hf]
  · show iblk m c 3 t (ix2 k b) = _
    blk_ext [iblk, V, e3, hf]
  · show iblk m c 4 t (ix2 k b) = _
    blk_ext [iblk, V, e4, hf]

/-- An element of a branch's block. -/
theorem read_y (c : Dev nD) (t : Fin cfg0.N) (i : Fin 4) (a : Fin 512) (k : Fin 512) (r : Fin 16384) (hr : r.val = t.val % 32 * 512 + a.val) :
    ys m c t i (ix2 a k) = branches (ins m c i) (ix2 r k) := by
  obtain ⟨-, -, ⟨e5, e6, e7, e8⟩, -⟩ := idx t
  obtain ⟨v5, v6, v7, v8⟩ := V_y m c
  fin_cases i
  · show iblk m c 5 t (ix2 a k) = branches (m ((c : Thread nD τ).loc main_arg2)) (ix2 r k)
    unfold iblk
    rw [v5]
    exact congrArg (branches _) (by blk_ext [e5, hr])
  · show iblk m c 6 t (ix2 a k) = branches (m ((c : Thread nD τ).loc main_arg3)) (ix2 r k)
    unfold iblk
    rw [v6]
    exact congrArg (branches _) (by blk_ext [e6, hr])
  · show iblk m c 7 t (ix2 a k) = branches (m ((c : Thread nD τ).loc main_arg4)) (ix2 r k)
    unfold iblk
    rw [v7]
    exact congrArg (branches _) (by blk_ext [e7, hr])
  · show iblk m c 8 t (ix2 a k) = branches (m ((c : Thread nD τ).loc main_arg5)) (ix2 r k)
    unfold iblk
    rw [v8]
    exact congrArg (branches _) (by blk_ext [e8, hr])

/-- An element of the block of the branches' weights. -/
theorem read_w (c : Dev nD) (t : Fin cfg0.N) (i : Fin 4) (e : Fin 512) (b : Fin 256) (f : Fin 2048) (hf : f.val = t.val / 32 * 256 + b.val) :
    iblk m c 9 t (ix3 i e b) = m ((c : Thread nD τ).loc main_arg6) (ix3 i e f) := by
  have h := (idx t).2.2.2.1
  blk_ext [iblk, V, h, hf]

/-- Consecutive points of one column of tiles read the same blocks of gate weights. -/
theorem same_g (c : Dev nD) (t s : Fin cfg0.N) (h : t.val / 32 = s.val / 32) : gs m c t = gs m c s := by
  have ht := (idx t).2.2.2.2.2
  funext i y
  have hy : y = (ix2 (y 0) (y 1) : S2048x256.Idx) := by blk_ext
  have hi := i.isLt
  have hb : (y 1).val < 256 := (y 1).isLt
  rw [hy]
  have hf : i.val * 2048 + (t.val / 32 * 256 + (y 1).val) < 8192 := by omega
  exact (read_g m c t i (y 0) (y 1) ⟨_, hf⟩ rfl).trans (read_g m c s i (y 0) (y 1) ⟨_, hf⟩ (congrArg (fun q => i.val * 2048 + (q * 256 + (y 1).val)) h)).symm

/-- And the same weights of the branches. -/
theorem same_w (c : Dev nD) (t s : Fin cfg0.N) (h : t.val / 32 = s.val / 32) :
    (show Vec Ideal S4x512x256 .f32 from iblk m c 9 t) = iblk m c 9 s := by
  funext y
  have e := (idx t).2.2.2.1
  have e' := (idx s).2.2.2.1
  blk_ext [iblk, e, e', h]

/-- After each point the scratch arrays hold its column's weights. -/
theorem held (c : Dev nD) : ∀ (n : ℕ) (h : n < cfg0.N),
    (outsAt0 m c n h).2.1 = stack (gs m c ⟨n, h⟩) ∧ (outsAt0 m c n h).2.2 = k0_pay6 (F := Ideal) (iblk m c 9 ⟨n, h⟩) := by
  intro n
  induction n with
  | zero =>
    intro h
    rw [outsAt0_A m c ⟨0, h⟩ (Nat.zero_mod _)]
    constructor
    · frame_out
      exact stored (gs m c ⟨0, h⟩)
    · frame_out
  | succ n ih =>
    intro h
    by_cases h0 : (n + 1) % 32 = 0
    · rw [outsAt0_A m c ⟨n + 1, h⟩ h0]
      constructor
      · frame_out
        exact stored (gs m c ⟨n + 1, h⟩)
      · frame_out
    · obtain ⟨i1, i2⟩ := ih (Nat.lt_of_succ_lt h)
      have hs : (⟨n, Nat.lt_of_succ_lt h⟩ : Fin cfg0.N).val / 32 = (⟨n + 1, h⟩ : Fin cfg0.N).val / 32 := by
        show n / 32 = (n + 1) / 32
        omega
      rw [outsAt0_B m c ⟨n + 1, h⟩ h0]
      constructor
      · unfold sout0_B_0
        exact i1.trans (congrArg stack (same_g m c _ _ hs))
      · unfold sout0_B_1
        exact i2.trans (congrArg (k0_pay6 (F := Ideal)) (same_w m c _ _ hs))

/-- What a point stores is the plain formula at the place it goes to. -/
theorem point_at (c : Dev nD) (t : Fin cfg0.N) (a : Fin 512) (b : Fin 256) (r : Fin 16384) (f : Fin 2048)
    (hr : r.val = t.val % 32 * 512 + a.val) (hf : f.val = t.val / 32 * 256 + b.val) :
    body (iblk m c 0 t) (gs m c t) (ys m c t) (iblk m c 9 t) (ix2 a b)
      = Cert.Reference4Ideal.Merge.plain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r f) := by
  refine (body_at _ _ _ _ a b).trans (Eq.trans ?_ (Cert.Reference4Ideal.Merge.plain_at _ _ (ins m c) _ r f).symm)
  refine congrArg₂ Cert.Reference4Ideal.Merge.mixed (funext fun i => ?_) (funext fun i => ?_)
  · exact Finset.sum_congr rfl fun k _ => congrArg₂ (· * ·) ((read_u m c t a k r hr _ (V_u m c)).trans (inputs_at _ r k))
      (read_g m c t i k b _ (by show i.val * 2048 + f.val = _; rw [hf]))
  · exact Finset.sum_congr rfl fun e _ => congrArg₂ (· * ·) ((read_y m c t i a e r hr).trans (branches_at _ r e)) (read_w m c t i e b f hf)

/-- The same at the index of the array that a place of the block has. -/
theorem point (c : Dev nD) (t : Fin cfg0.N) (y : S512x256.Idx) :
    body (iblk m c 0 t) (gs m c t) (ys m c t) (iblk m c 9 t) y
      = Cert.Reference4Ideal.Merge.plain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 10).blk t).view.emb y) := by
  obtain ⟨-, -, -, -, e, ht⟩ := idx t
  have h0 : (y 0).val < 512 := (y 0).isLt
  have h1 : (y 1).val < 256 := (y 1).isLt
  have key := point_at m c t (y 0) (y 1) ⟨t.val % 32 * 512 + (y 0).val, by omega⟩ ⟨t.val / 32 * 256 + (y 1).val, by omega⟩ rfl rfl
  have hy : (ix2 (y 0) (y 1) : S512x256.Idx) = y := by blk_ext
  rw [hy] at key
  refine key.trans (congrArg _ ?_)
  blk_ext [e]

/-- The array after the run is the plain formula's. -/
theorem final (c : Dev nD) : (dats m 0 c).arrAt 10 (cfgs 0).N
    = Cert.Reference4Ideal.Merge.plain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  by_cases h0 : t.val % 32 = 0
  · rw [outsAt0_A m c t h0]
    frame_out
    simp only [loaded_g]
    rw [loaded_w, loaded_w, loaded_w, loaded_w]
    refine Eq.trans ?_ (point m c t y)
    unfold body
    rw [← stored]
    simp only [over, stores, gs, ys, Matrix.cons_val]
  · obtain ⟨i1, i2⟩ := held m c (t.val - 1) (Nat.lt_of_le_of_lt (Nat.sub_le _ _) t.isLt)
    have hs : (⟨t.val - 1, Nat.lt_of_le_of_lt (Nat.sub_le _ _) t.isLt⟩ : Fin cfg0.N).val / 32 = t.val / 32 := by
      show (t.val - 1) / 32 = t.val / 32
      omega
    rw [outsAt0_B m c t h0]
    frame_out
    rw [read_unread_whole, read_unread_whole, i1.trans (congrArg stack (same_g m c _ t hs)),
      i2.trans (congrArg (k0_pay6 (F := Ideal)) (same_w m c _ t hs))]
    exact point m c t y

end Cert.Kernel4Ideal.Merge

end
-- ==== Proof.Ffn.Last.lean ====
/- The feed-forward part's second call as the layer's last: its result is the plain formula's residual sum. -/
module

public import proofs.«01_k».proof.Proof.Gen.Kernel5Ideal.Value
public import proofs.«01_k».proof.Proof.Ffn.Tile

@[expose] public section

set_option maxRecDepth 16384

noncomputable section

namespace Cert.Kernel5Ideal.Last

open Cert.Kernel5Ideal Cert.Kernel5Ideal.Gen Idealize.ShloMosaic Idealize.ShloMosaic.TcCoe Idealize.ShloMosaic.Tactic Idealize.SL.Sem
open Cert.Row

variable (m : (ℓ : Loc nD τ sig) → Buf (Elt Ideal) ℓ)

/-- Where each window's block sits. -/
theorem idx : ∀ t : Fin cfg0.N, win0_0.index t = ![t.val, 0] ∧ win0_1.index t = ![0, 0] ∧ win0_2.index t = ![t.val, 0] ∧ win0_3.index t = ![0, 0]
    ∧ win0_4.index t = ![t.val / 16, 0, 0] ∧ win0_5.index t = ![t.val, 0] ∧ t.val < 64 :=
  (by decide +kernel : ∀ t : Fin grid0.N, _)

open StableHlo in
/-- What the host puts into the windows' arrays: the hidden rows, the weight, the residual rows and the gain. -/
theorem host (c : Dev nD) :
    V m c (Pipeline.arrRef spec0 0) = hidden (m ((c : Thread nD τ).loc main_arg0))
    ∧ V m c (Pipeline.arrRef spec0 1) = (truncf .bf16 (m ((c : Thread nD τ).loc main_arg1) : FVec Ideal S5632x2048 .f32) bitsLt_bf16_f32 : FVec Ideal S5632x2048 .bf16)
    ∧ V m c (Pipeline.arrRef spec0 2) = flat (m ((c : Thread nD τ).loc main_arg2))
    ∧ V m c (Pipeline.arrRef spec0 3) = oneRow (m ((c : Thread nD τ).loc main_arg3)) := by
  change StableHlo.after hostOps0 _ (Proc.devRef .tc main_v1) = _ ∧ StableHlo.after hostOps0 _ (Proc.devRef .tc main_v3) = _
    ∧ StableHlo.after hostOps0 _ (Proc.devRef .tc main_v2) = _ ∧ StableHlo.after hostOps0 _ (Proc.devRef .tc main_v4) = _
  refine ⟨?_, ?_, ?_, ?_⟩ <;>
    simp (disch := decide) only [after_cons, after_nil, unary_result', reshape_result', unary_result_ne', reshape_result_ne'] <;> rfl

/-- The blocks of point `t`, at the tile's row `a`, which is row `r` of the arrays. -/
theorem blocks (c : Dev nD) (t : Fin cfg0.N) (a : Fin 256) (r : Fin 16384) (hr : r.val = t.val * 256 + a.val) :
    (∀ k, iblk m c 0 t (ix2 a k) = m ((c : Thread nD τ).loc main_arg0) (ix3 (⟨r.val / 4096, by omega⟩ : Fin 4) (⟨r.val % 4096, Nat.mod_lt _ (by decide)⟩ : Fin 4096) k))
    ∧ (∀ k d, iblk m c 1 t (ix2 k d) = m ((c : Thread nD τ).loc main_arg1) (ix2 k d))
    ∧ (∀ k, iblk m c 2 t (ix2 a k) = m ((c : Thread nD τ).loc main_arg2) (ix3 (⟨r.val / 4096, by omega⟩ : Fin 4) (⟨r.val % 4096, Nat.mod_lt _ (by decide)⟩ : Fin 4096) k))
    ∧ (∀ k, iblk m c 3 t (ix2 0 k) = m ((c : Thread nD τ).loc main_arg3) (ix1 k))
    ∧ (∀ k, iblk m c 4 t (ix3 0 0 k) = m ((c : Thread nD τ).loc main_arg4) (ix3 (⟨r.val / 4096, by omega⟩ : Fin 4) 0 k)) := by
  obtain ⟨e0, e1, e2, e3, e4, -, ht⟩ := idx t
  obtain ⟨v0, v1, v2, v3⟩ := host m c
  have hb : r.val / 4096 = t.val / 16 := by omega
  refine ⟨fun k => ?_, fun k d => ?_, fun k => ?_, fun k => ?_, fun k => ?_⟩ <;> unfold iblk
  · rw [v0]
    exact (congrArg (hidden _) (by blk_ext [e0, hr])).trans (hidden_at _ r k)
  · rw [v1]
    exact congrArg (m ((c : Thread nD τ).loc main_arg1)) (by blk_ext [e1])
  · rw [v2]
    exact (congrArg (flat _) (by blk_ext [e2, hr])).trans (flat_at _ r k)
  · rw [v3]
    exact (congrArg (oneRow _) (by blk_ext [e3])).trans (oneRow_at _ k)
  · exact congrArg (m ((c : Thread nD τ).loc main_arg4)) (by blk_ext [e4, hb])

/-- What a point computes, at a row of the array. -/
theorem point (c : Dev nD) (t : Fin cfg0.N) (a : Fin 256) (r : Fin 16384) (hr : r.val = t.val * 256 + a.val) (d : Fin 2048) :
    k0_pay1 (F := Ideal) (iblk m c 0 t) (iblk m c 1 t) (iblk m c 3 t) (iblk m c 2 t) (iblk m c 4 t) (ix2 a d)
      = summed 0x3F000000#32 (m ((c : Thread nD τ).loc main_arg2)) (m ((c : Thread nD τ).loc main_arg4))
          (down (m ((c : Thread nD τ).loc main_arg0)) (m ((c : Thread nD τ).loc main_arg1))) (m ((c : Thread nD τ).loc main_arg3)) (ix2 r d) := by
  obtain ⟨b0, b1, b2, b3, b4⟩ := blocks m c t a r hr
  exact Tile.update_at 0x3F000000#32 _ _ _ _ (Tile.down (iblk m c 0 t) (iblk m c 1 t)) _ _ _ a r (Tile.down_at _ _ _ _ a _ _ b0 b1) b3 b2 b4 d

/-- The array after the run is the reference's residual sum. -/
theorem final (c : Dev nD) : (dats m 0 c).arrAt 5 (cfgs 0).N
    = summed 0x3F000000#32 (m ((c : Thread nD τ).loc main_arg2)) (m ((c : Thread nD τ).loc main_arg4))
        (down (m ((c : Thread nD τ).loc main_arg0)) (m ((c : Thread nD τ).loc main_arg1))) (m ((c : Thread nD τ).loc main_arg3)) := by
  refine (dats m 0 c).arrAt_eq_of_covers 5 _ (by decide +kernel) fun t _ y => ?_
  blk_simp
  rw [after0_5]
  frame_out
  obtain ⟨-, -, -, -, -, e, ht⟩ := idx t
  refine Tile.place _ _ t.val y _ (point m c t) ?_ ?_ <;> simp [e] <;> omega

end Cert.Kernel5Ideal.Last

end
-- ==== Proof.Ffn.Mix.lean ====
/- The call after the mixers, with the output weight and the residual weight one: what it leaves of the residual sum and
   of the next sublayer's input is what the plain formula says. -/
module

public import proofs.«01_k».proof.Proof.Gen.Kernel6Ideal.Value
public import proofs.«01_k».proof.Proof.Gen.Reference6Ideal
public import proofs.«01_k».proof.Proof.Ffn.Tile

@[expose] public section

set_option maxRecDepth 16384

noncomputable section

namespace Cert.Kernel6Ideal.Mix

open Cert.Kernel6Ideal Cert.Kernel6Ideal.Gen Idealize.ShloMosaic Idealize.ShloMosaic.TcCoe Idealize.ShloMosaic.Tactic Idealize.SL.Sem
open Cert.Row

variable (m : (ℓ : Loc nD τ sig) → Buf (Elt Ideal) ℓ)

/-- The reference's product of the merged rows with the output weight. -/
def out (x : FVec Ideal S4x4096x2048 .f32) (w : FVec Ideal S2048x2048 .f32) : FVec Ideal S4x4096x2048 .f32 :=
  Host.dotGeneral Cert.Reference6Ideal.dot_S4x4096x2048_S2048x2048_S4x4096x2048_2_0_01_1_n_n none x w

/-- The body's product on a tile. -/
def mm (x : Vec Ideal S256x2048 .bf16) (w : Vec Ideal S2048x2048 .bf16) : FVec Ideal S256x2048 .f32 :=
  matmul dot_S256x2048_S2048x2048_S256x2048_1_0_0_1_n_n none (shapeCast S256x2048 x shapeCasts_S256x2048_S256x2048 : FVec Ideal S256x2048 .bf16)
    (shapeCast S2048x2048 w shapeCasts_S2048x2048_S2048x2048 : FVec Ideal S2048x2048 .bf16) (constant S256x2048 .f32 0x00000000#32)

/-- Where the tile's row is a row of the merged rows, the two products agree. -/
theorem mm_at (x : Vec Ideal S256x2048 .bf16) (w : Vec Ideal S2048x2048 .bf16) (X : FVec Ideal S4x4096x2048 .f32) (W : FVec Ideal S2048x2048 .f32)
    (a : Fin 256) (b : Fin 4) (s : Fin 4096) (hx : ∀ e, x (ix2 a e) = X (ix3 b s e)) (hw : ∀ e k, w (ix2 e k) = W (ix2 e k)) (k : Fin 2048) :
    mm x w (ix2 a k) = out X W (ix3 b s k) := by
  have e : mm x w (ix2 a k) = ∑ e : Fin 2048, x (ix2 a e) * w (ix2 e k) := by
    pointwise [mm]
  have e' : out X W (ix3 b s k) = ∑ e : Fin 2048, X (ix3 b s e) * W (ix2 e k) := by
    pointwise [out]
  rw [e, e']
  exact Finset.sum_congr rfl fun e _ => congrArg₂ (· * ·) (hx e) (hw e k)

/-- The residual sum that the plain formula gives for the program's arguments. -/
def sum (c : Dev nD) : FVec Ideal S16384x2048 .f32 :=
  summed 0x3F800000#32 (m ((c : Thread nD τ).loc main_arg2)) (m ((c : Thread nD τ).loc main_arg4))
    (out (m ((c : Thread nD τ).loc main_arg0)) (m ((c : Thread nD τ).loc main_arg1))) (m ((c : Thread nD τ).loc main_arg3))

/-- The next sublayer's input that it gives. -/
def next (c : Dev nD) : FVec Ideal S16384x2048 .bf16 :=
  onward 0x3F800000#32 (m ((c : Thread nD τ).loc main_arg2)) (m ((c : Thread nD τ).loc main_arg4))
    (out (m ((c : Thread nD τ).loc main_arg0)) (m ((c : Thread nD τ).loc main_arg1))) (m ((c : Thread nD τ).loc main_arg3))
    (m ((c : Thread nD τ).loc main_arg5)) (m ((c : Thread nD τ).loc main_arg6)) (m ((c : Thread nD τ).loc main_arg7))

/-- Where each window's block sits. -/
theorem idx : ∀ t : Fin cfg0.N, win0_0.index t = ![t.val, 0] ∧ win0_1.index t = ![0, 0] ∧ win0_2.index t = ![t.val, 0] ∧ win0_3.index t = ![0, 0]
    ∧ win0_4.index t = ![t.val / 16, 0, 0] ∧ win0_5.index t = ![0, 0] ∧ win0_6.index t = ![t.val / 16, 0, 0] ∧ win0_7.index t = ![t.val / 16, 0, 0]
    ∧ win0_8.index t = ![t.val, 0] ∧ win0_9.index t = ![t.val, 0] ∧ t.val < 64 :=
  (by decide +kernel : ∀ t : Fin grid0.N, _)

open StableHlo in
/-- What the host puts into the windows' arrays: the merged rows, which are as long as the residual rows, the weight, the
    residual rows and the two gains. -/
theorem host (c : Dev nD) :
    V m c (Pipeline.arrRef spec0 0) = (truncf .bf16 (flat (m ((c : Thread nD τ).loc main_arg0))) bitsLt_bf16_f32 : FVec Ideal S16384x2048 .bf16)
    ∧ V m c (Pipeline.arrRef spec0 1) = (truncf .bf16 (m ((c : Thread nD τ).loc main_arg1) : FVec Ideal S2048x2048 .f32) bitsLt_bf16_f32 : FVec Ideal S2048x2048 .bf16)
    ∧ V m c (Pipeline.arrRef spec0 2) = flat (m ((c : Thread nD τ).loc main_arg2))
    ∧ V m c (Pipeline.arrRef spec0 3) = oneRow (m ((c : Thread nD τ).loc main_arg3))
    ∧ V m c (Pipeline.arrRef spec0 5) = oneRow (m ((c : Thread nD τ).loc main_arg5)) := by
  change StableHlo.after hostOps0 _ (Proc.devRef .tc main_v1) = _ ∧ StableHlo.after hostOps0 _ (Proc.devRef .tc main_v3) = _
    ∧ StableHlo.after hostOps0 _ (Proc.devRef .tc main_v2) = _ ∧ StableHlo.after hostOps0 _ (Proc.devRef .tc main_v4) = _
    ∧ StableHlo.after hostOps0 _ (Proc.devRef .tc main_v5) = _
  refine ⟨?_, ?_, ?_, ?_, ?_⟩ <;>
    simp (disch := decide) only [after_cons, after_nil, unary_result', reshape_result', unary_result_ne', reshape_result_ne'] <;> rfl

/-- A block of rows, of either array of rows: the tile's row `a` is row `r` of the array. -/
theorem rows (c : Dev nD) (t : Fin cfg0.N) (a : Fin 256) (r : Fin 16384) (hr : r.val = t.val * 256 + a.val) (k : Fin 2048) :
    iblk m c 0 t (ix2 a k) = m ((c : Thread nD τ).loc main_arg0) (ix3 (⟨r.val / 4096, by omega⟩ : Fin 4) (⟨r.val % 4096, Nat.mod_lt _ (by decide)⟩ : Fin 4096) k)
    ∧ iblk m c 2 t (ix2 a k) = m ((c : Thread nD τ).loc main_arg2) (ix3 (⟨r.val / 4096, by omega⟩ : Fin 4) (⟨r.val % 4096, Nat.mod_lt _ (by decide)⟩ : Fin 4096) k) := by
  obtain ⟨e0, -, e2, -⟩ := idx t
  obtain ⟨v0, -, v2, -⟩ := host m c
  constructor <;> unfold iblk
  · rw [v0]
    exact (congrArg (flat _) (by blk_ext [e0, hr])).trans (flat_at _ r k)
  · rw [v2]
    exact (congrArg (flat _) (by blk_ext [e2, hr])).trans (flat_at _ r k)

/-- The blocks that are the same for all points: the weight and the gains. -/
theorem whole (c : Dev nD) (t : Fin cfg0.N) :
    (∀ k d, iblk m c 1 t (ix2 k d) = m ((c : Thread nD τ).loc main_arg1) (ix2 k d))
    ∧ (∀ k, iblk m c 3 t (ix2 0 k) = m ((c : Thread nD τ).loc main_arg3) (ix1 k))
    ∧ (∀ k, iblk m c 5 t (ix2 0 k) = m ((c : Thread nD τ).loc main_arg5) (ix1 k)) := by
  obtain ⟨-, e1, -, e3, -, e5, -⟩ := idx t
  obtain ⟨-, v1, -, v3, v5⟩ := host m c
  refine ⟨fun k d => ?_, fun k => ?_, fun k => ?_⟩ <;> unfold iblk
  · rw [v1]
    exact congrArg (m ((c : Thread nD τ).loc main_arg1)) (by blk_ext [e1])
  · rw [v3]
    exact (congrArg (oneRow _) (by blk_ext [e3])).trans (oneRow_at _ k)
  · rw [v5]
    exact (congrArg (oneRow _) (by blk_ext [e5])).trans (oneRow_at _ k)

/-- The blocks that a batch has for itself: the gate, the scale and the shift. -/
theorem batch (c : Dev nD) (t : Fin cfg0.N) (b : Fin 4) (hb : b.val = t.val / 16) (k : Fin 2048) :
    iblk m c 4 t (ix3 0 0 k) = m ((c : Thread nD τ).loc main_arg4) (ix3 b 0 k)
    ∧ iblk m c 6 t (ix3 0 0 k) = m ((c : Thread nD τ).loc main_arg6) (ix3 b 0 k)
    ∧ iblk m c 7 t (ix3 0 0 k) = m ((c : Thread nD τ).loc main_arg7) (ix3 b 0 k) := by
  obtain ⟨-, -, -, -, e4, -, e6, e7, -⟩ := idx t
  exact ⟨congrArg (m ((c : Thread nD τ).loc main_arg4)) (by blk_ext [e4, hb]), congrArg (m ((c : Thread nD τ).loc main_arg6)) (by blk_ext [e6, hb]),
    congrArg (m ((c : Thread nD τ).loc main_arg7)) (by blk_ext [e7, hb])⟩

/-- A row's batch is its point's. -/
theorem batch_of (t : Fin cfg0.N) (a : Fin 256) (r : Fin 16384) (hr : r.val = t.val * 256 + a.val) :
    (⟨r.val / 4096, by omega⟩ : Fin 4).val = t.val / 16 := by
  show r.val / 4096 = t.val / 16
  omega

/-- What a point computes of the residual sum, at a row of the array. -/
theorem sum_point (c : Dev nD) (t : Fin cfg0.N) (a : Fin 256) (r : Fin 16384) (hr : r.val = t.val * 256 + a.val) (d : Fin 2048) :
    k0_pay2 (F := Ideal) (iblk m c 0 t) (iblk m c 1 t) (iblk m c 3 t) (iblk m c 2 t) (iblk m c 4 t) (ix2 a d) = sum m c (ix2 r d) :=
  Tile.update_at 0x3F800000#32 _ _ _ _ (mm (iblk m c 0 t) (iblk m c 1 t)) _ _ _ a r
    (mm_at _ _ _ _ a _ _ (fun e => (rows m c t a r hr e).1) (whole m c t).1) (whole m c t).2.1
    (fun k => (rows m c t a r hr k).2) (fun k => (batch m c t _ (batch_of t a r hr) k).1) d

/-- What a point computes of the next input, at a row of the array. -/
theorem next_point (c : Dev nD) (t : Fin cfg0.N) (a : Fin 256) (r : Fin 16384) (hr : r.val = t.val * 256 + a.val) (d : Fin 2048) :
    k0_pay1 (F := Ideal) (k0_pay3 (F := Ideal) (iblk m c 0 t) (iblk m c 1 t) (iblk m c 3 t) (iblk m c 2 t) (iblk m c 4 t))
      (iblk m c 5 t) (iblk m c 6 t) (iblk m c 7 t) (ix2 a d) = next m c (ix2 r d) :=
  Tile.next_at 0x3F800000#32 _ _ _ _ _ _ _ (k0_pay2 (F := Ideal) (iblk m c 0 t) (iblk m c 1 t) (iblk m c 3 t) (iblk m c 2 t) (iblk m c 4 t))
    _ _ _ a r (sum_point m c t a r hr) (whole m c t).2.2 (fun k => (batch m c t _ (batch_of t a r hr) k).2.1)
    (fun k => (batch m c t _ (batch_of t a r hr) k).2.2) d

/-- The first array after the run is the reference's residual sum. -/
theorem final_sum (c : Dev nD) : (dats m 0 c).arrAt 8 (cfgs 0).N = sum m c := by
  refine (dats m 0 c).arrAt_eq_of_covers 8 _ (by decide +kernel) fun t _ y => ?_
  blk_simp
  rw [after0_8]
  frame_out
  obtain ⟨-, -, -, -, -, -, -, -, e, -, ht⟩ := idx t
  refine Tile.place _ _ t.val y _ (sum_point m c t) ?_ ?_ <;> simp [e] <;> omega

/-- The second is the reference's input of the next sublayer. -/
theorem final_next (c : Dev nD) : (dats m 0 c).arrAt 9 (cfgs 0).N = next m c := by
  refine (dats m 0 c).arrAt_eq_of_covers 9 _ (by decide +kernel) fun t _ y => ?_
  blk_simp
  rw [after0_9]
  frame_out
  obtain ⟨-, -, -, -, -, -, -, -, -, e, ht⟩ := idx t
  refine Tile.place _ _ t.val y _ (next_point m c t) ?_ ?_ <;> simp [e] <;> omega

end Cert.Kernel6Ideal.Mix

end
-- ==== Proof.In.Entry.lean ====
/- The mixers' input projections: which column of the combined weight each column of a call's weight is, and the products
   with the columns so chosen. -/
module

public import proofs.«01_k».proof.Proof.Gen.Reference8Ideal
public import proofs.«01_k».proof.Proof.Ffn.Up

@[expose] public section

set_option maxRecDepth 16384

noncomputable section

namespace Cert.In

open Cert.Reference8Ideal Cert.Reference8Ideal.Gen Idealize.ShloMosaic Idealize.ShloMosaic.TcCoe Idealize.ShloMosaic.Tactic Idealize.SL.Sem

/-- The batches' rows one after another: an element of row `r`. -/
def flat {C : Nat} (x : FVec Ideal ⟨3, ![4, 4096, C]⟩ .f32) (r : Fin 16384) (c : Fin C) : EReal :=
  x (ix3 (⟨r.val / 4096, by omega⟩ : Fin 4) (⟨r.val % 4096, Nat.mod_lt _ (by decide)⟩ : Fin 4096) c)

/-- The product of a row of the activations with a column of the combined weight. -/
def entry (u : FVec Ideal S4x4096x2048 .f32) (w : FVec Ideal S2048x13384 .f32) (r : Fin 16384) (c : Fin 13384) : EReal :=
  ∑ k : Fin 2048, flat u r k * w (ix2 k c)

/-- A chosen column's element, or zero where no column is chosen. -/
def pick (x : Fin 13384 → EReal) (c : Option (Fin 13384)) : EReal := c.elim 0 x

/-- Where a tile's row is a row of the activations, and a column of its weight is a chosen column of the combined weight, the
    product is the chosen product. -/
theorem product {q : Nat} (u : FVec Ideal S4x4096x2048 .f32) (w : FVec Ideal S2048x13384 .f32) (r : Fin 16384) (o : Option (Fin 13384))
    (x : FVec Ideal ⟨2, ![1024, 2048]⟩ .bf16) (v : FVec Ideal ⟨2, ![2048, q]⟩ .bf16) (a : Fin 1024) (b : Fin q)
    (hx : ∀ k, x (ix2 a k) = flat u r k) (hv : ∀ k, v (ix2 k b) = pick (fun c => w (ix2 k c)) o) :
    ∑ k : Fin 2048, x (ix2 a k) * v (ix2 k b) = pick (entry u w r) o := by
  rw [Finset.sum_congr rfl fun k _ => congrArg₂ (· * ·) (hx k) (hv k)]
  cases o <;> simp [pick, entry]

/-- A tile agrees with an array wherever the tile's index is placed, if it does so by rows and columns. -/
theorem place {α : Type} {p q M N : Nat} (z : (⟨2, ![p, q]⟩ : Shape).Idx → α) (G : (⟨2, ![M, N]⟩ : Shape).Idx → α) (i j : Nat) (y : (⟨2, ![p, q]⟩ : Shape).Idx)
    (e : (⟨2, ![M, N]⟩ : Shape).Idx)
    (hz : ∀ (a : Fin p) (b : Fin q) (r : Fin M) (f : Fin N), r.val = i * p + a.val → f.val = j * q + b.val → z (ix2 a b) = G (ix2 r f))
    (h0 : (e 0).val = i * p + (y 0).val) (h1 : (e 1).val = j * q + (y 1).val) : z y = G e := by
  have key := hz (y 0) (y 1) (e 0) (e 1) h0 h1
  have hy : (ix2 (y 0) (y 1) : (⟨2, ![p, q]⟩ : Shape).Idx) = y := (ValueIdx.eq_ix2 y).symm
  have he : (ix2 (e 0) (e 1) : (⟨2, ![M, N]⟩ : Shape).Idx) = e := (ValueIdx.eq_ix2 e).symm
  rwa [hy, he] at key

/-- The reference's product of the activations with the combined weight. -/
def proj (u : FVec Ideal S4x4096x2048 .f32) (w : FVec Ideal S2048x13384 .f32) : FVec Ideal S4x4096x13384 .f32 :=
  Host.dotGeneral dot_S4x4096x2048_S2048x13384_S4x4096x13384_2_0_01_1_n_n none u w

/-- A row of the reference's product. -/
theorem proj_at (u : FVec Ideal S4x4096x2048 .f32) (w : FVec Ideal S2048x13384 .f32) (r : Fin 16384) (c : Fin 13384) :
    flat (proj u w) r c = entry u w r c := by
  unfold flat entry flat
  pointwise [proj]

/-- A tile `z` that is the product of a block `x` of the activations' rows with a block `v` of chosen columns agrees with the
    reference's array `G`, which has the product's columns chosen alike, wherever the tile's index is placed. Here `X` and `Y`
    say which elements of the flat activations and of the weight the blocks hold. -/
theorem tile {q N : Nat} (u : FVec Ideal S4x4096x2048 .f32) (w : FVec Ideal S2048x13384 .f32) (col : Fin N → Option (Fin 13384))
    (G : FVec Ideal ⟨2, ![16384, N]⟩ .f32) (W : FVec Ideal ⟨2, ![2048, N]⟩ .bf16)
    (x : FVec Ideal ⟨2, ![1024, 2048]⟩ .bf16) (v : FVec Ideal ⟨2, ![2048, q]⟩ .bf16) (z : FVec Ideal ⟨2, ![1024, q]⟩ .f32) (i j : Nat)
    (X : (⟨2, ![1024, 2048]⟩ : Shape).Idx → (⟨2, ![16384, 2048]⟩ : Shape).Idx) (Y : (⟨2, ![2048, q]⟩ : Shape).Idx → (⟨2, ![2048, N]⟩ : Shape).Idx)
    (hz : ∀ a b, z (ix2 a b) = ∑ k : Fin 2048, x (ix2 a k) * v (ix2 k b))
    (hW : ∀ k f, W (ix2 k f) = pick (fun c => w (ix2 k c)) (col f)) (hG : ∀ r f, G (ix2 r f) = pick (flat (proj u w) r) (col f))
    (hx : ∀ y, x y = Kernel2Ideal.Up.rows u (X y)) (hv : ∀ y, v y = W (Y y))
    (hX : ∀ y, (X y 0).val = i * 1024 + (y 0).val ∧ (X y 1).val = (y 1).val)
    (hY : ∀ y, (Y y 0).val = (y 0).val ∧ (Y y 1).val = j * q + (y 1).val)
    (y : (⟨2, ![1024, q]⟩ : Shape).Idx) (e : (⟨2, ![16384, N]⟩ : Shape).Idx)
    (he : (e 0).val = i * 1024 + (y 0).val ∧ (e 1).val = j * q + (y 1).val) : z y = G e :=
  place z G i j y e (fun a b r f hr hf => by
    rw [hz, hG, funext (proj_at u w r)]
    refine product u w r _ x v a b (fun k => ?_) (fun k => ?_)
    · have h : X (ix2 a k) = ix2 r k := by
        rw [ValueIdx.eq_ix2 (X (ix2 a k))]
        exact congrArg₂ ix2 (Fin.ext ((hX _).1.trans hr.symm)) (Fin.ext (hX _).2)
      rw [hx, h]
      exact Kernel2Ideal.Up.rows_at u r k
    · have h : Y (ix2 k b) = ix2 k f := by
        rw [ValueIdx.eq_ix2 (Y (ix2 k b))]
        exact congrArg₂ ix2 (Fin.ext (hY _).1) (Fin.ext ((hY _).2.trans hf.symm))
      rw [hv, h]
      exact hW k f) he.1 he.2

end Cert.In

end
-- ==== Proof.In.Rwkv.lean ====
/- RWKV-7's input projection: the columns of the combined weight in another order. -/
module

public import proofs.«01_k».proof.Proof.Gen.Kernel7Ideal.Value
public import proofs.«01_k».proof.Proof.Gen.Reference7Ideal.Run
public import proofs.«01_k».proof.Proof.In.Entry

@[expose] public section

set_option maxRecDepth 16384

noncomputable section

namespace Cert.In.Rwkv

/-- The column of the combined weight that a column of this call's weight is. -/
def col (f : Fin 1792) : Option (Fin 13384) :=
  if _ : f.val < 512 then some ⟨1304 + f.val, by omega⟩
  else if _ : f.val < 1536 then some ⟨1368 + f.val, by omega⟩
  else if _ : f.val < 1600 then some ⟨280 + f.val, by omega⟩
  else some ⟨1304 + f.val, by omega⟩

end Cert.In.Rwkv

namespace Cert.Reference7Ideal.In

open Cert.Reference7Ideal Cert.Reference7Ideal.Gen Idealize.ShloMosaic Idealize.ShloMosaic.TcCoe Idealize.ShloMosaic.Tactic Idealize.SL.Sem
open Cert.In

/-- The mixer's columns of the product. -/
def part (p : FVec Ideal S4x4096x13384 .f32) : FVec Ideal S4x4096x1792 .f32 :=
  extractStridedSlice S4x4096x1792 ![0, 0, 1304] p slices_S4x4096x13384_S4x4096x1792_0_0_1304

/-- The parts of the product, in the order in which the call returns them. -/
def order (p : FVec Ideal S4x4096x13384 .f32) : FVec Ideal S16384x1792 .f32 :=
  shapeCast _ (concatenate S4x4096x1792 2 [
    ⟨S4x4096x512, extractStridedSlice S4x4096x512 ![0, 0, 0] (part p) slices_S4x4096x1792_S4x4096x512_0_0_0⟩,
    ⟨S4x4096x512, extractStridedSlice S4x4096x512 ![0, 0, 576] (part p) slices_S4x4096x1792_S4x4096x512_0_0_576⟩,
    ⟨S4x4096x512, extractStridedSlice S4x4096x512 ![0, 0, 1088] (part p) slices_S4x4096x1792_S4x4096x512_0_0_1088⟩,
    ⟨S4x4096x64, extractStridedSlice S4x4096x64 ![0, 0, 512] (part p) slices_S4x4096x1792_S4x4096x64_0_0_512⟩,
    ⟨S4x4096x64, extractStridedSlice S4x4096x64 ![0, 0, 1600] (part p) slices_S4x4096x1792_S4x4096x64_0_0_1600⟩,
    ⟨S4x4096x128, extractStridedSlice S4x4096x128 ![0, 0, 1664] (part p) slices_S4x4096x1792_S4x4096x128_0_0_1664⟩] concatenates_S4x4096x512_S4x4096x512_S4x4096x512_S4x4096x64_S4x4096x64_S4x4096x128_S4x4096x1792_d2) shapeCasts_S4x4096x1792_S16384x1792

/-- The ordered parts at an index. -/
theorem order_at (p : FVec Ideal S4x4096x13384 .f32) (r : Fin 16384) (f : Fin 1792) : order p (ix2 r f) = pick (flat p r) (Rwkv.col f) := by
  have hf := f.isLt
  unfold Rwkv.col
  split_ifs <;> pointwise [order, part] <;> split_ifs <;> first | omega | rfl | exact congrArg p (by blk_ext)

end Cert.Reference7Ideal.In

namespace Cert.Kernel7Ideal.In

open Cert.Kernel7Ideal Cert.Kernel7Ideal.Gen Idealize.ShloMosaic Idealize.ShloMosaic.TcCoe Idealize.ShloMosaic.Tactic Idealize.SL.Sem
open Cert.In
open Cert.Kernel2Ideal.Up (rows)

/-- The mixer's columns of the combined weight. -/
def part (w : FVec Ideal S2048x13384 .f32) : FVec Ideal S2048x1792 .f32 :=
  extractStridedSlice S2048x1792 ![0, 1304] w slices_S2048x13384_S2048x1792_0_1304

/-- The weight as the host lays it out. -/
def weight (w : FVec Ideal S2048x13384 .f32) : FVec Ideal S2048x1792 .bf16 :=
  truncf .bf16 (concatenate S2048x1792 1 [
    ⟨S2048x512, extractStridedSlice S2048x512 ![0, 0] (part w) slices_S2048x1792_S2048x512_0_0⟩,
    ⟨S2048x512, extractStridedSlice S2048x512 ![0, 576] (part w) slices_S2048x1792_S2048x512_0_576⟩,
    ⟨S2048x512, extractStridedSlice S2048x512 ![0, 1088] (part w) slices_S2048x1792_S2048x512_0_1088⟩,
    ⟨S2048x64, extractStridedSlice S2048x64 ![0, 512] (part w) slices_S2048x1792_S2048x64_0_512⟩,
    ⟨S2048x64, extractStridedSlice S2048x64 ![0, 1600] (part w) slices_S2048x1792_S2048x64_0_1600⟩,
    ⟨S2048x128, extractStridedSlice S2048x128 ![0, 1664] (part w) slices_S2048x1792_S2048x128_0_1664⟩] concatenates_S2048x512_S2048x512_S2048x512_S2048x64_S2048x64_S2048x128_S2048x1792_d1) bitsLt_bf16_f32

/-- The weight's elements. -/
theorem weight_at (w : FVec Ideal S2048x13384 .f32) (k : Fin 2048) (f : Fin 1792) :
    weight w (ix2 k f) = pick (fun c => w (ix2 k c)) (Rwkv.col f) := by
  have hf := f.isLt
  unfold Rwkv.col
  split_ifs <;> pointwise [weight, part] <;> split_ifs <;> first | omega | rfl | exact congrArg w (by blk_ext)

variable (m : (ℓ : Loc nD τ sig) → Buf (Elt Ideal) ℓ)

/-- Where each window's block sits. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

open StableHlo in
/-- What the host puts into the windows' arrays. -/
theorem host (c : Dev nD) : V m c (Pipeline.arrRef spec0 0) = rows (m ((c : Thread nD τ).loc main_arg0))
    ∧ V m c (Pipeline.arrRef spec0 1) = weight (m ((c : Thread nD τ).loc main_arg1)) := by
  change StableHlo.after hostOps0 _ (Proc.devRef .tc main_v2) = _ ∧ StableHlo.after hostOps0 _ (Proc.devRef .tc main_v10) = _
  constructor <;> after_results <;> rfl

/-- What the body stores at a row and a column of the block. -/
theorem pay_at (x : Vec Ideal S1024x2048 .bf16) (v : Vec Ideal S2048x896 .bf16) (a : Fin 1024) (b : Fin 896) :
    k0_pay1 (F := Ideal) x v (ix2 a b) = ∑ k : Fin 2048, x (ix2 a k) * v (ix2 k b) := by
  pointwise [k0_pay1]

/-- The array after the run is the reference's. -/
theorem final (c : Dev nD) : (dats m 0 c).arrAt 2 (cfgs 0).N
    = Cert.Reference7Ideal.In.order (proj (m ((c : Thread nD τ).loc main_arg0)) (m ((c : Thread nD τ).loc main_arg1))) := by
  refine (dats m 0 c).arrAt_eq_of_covers 2 _ (by decide +kernel) fun t _ y => ?_
  blk_simp
  rw [after0_2]
  frame_out
  obtain ⟨e0, e1, e⟩ := idx t
  obtain ⟨v0, v1⟩ := host m c
  exact tile _ _ Rwkv.col _ _ (iblk m c 0 t) (iblk m c 1 t) _ (t.val / 2) (t.val % 2) _ _ (pay_at _ _) (weight_at _)
    (Cert.Reference7Ideal.In.order_at _) (fun _ => congrFun v0 _) (fun _ => congrFun v1 _)
    (fun _ => by simp [e0] <;> omega) (fun _ => by simp [e1] <;> omega) y _ (by simp [e] <;> omega)

end Cert.Kernel7Ideal.In

end
-- ==== Proof.In.Gla.lean ====
/- GLA's input projection: the columns of the combined weight in another order, and padding. -/
module

public import proofs.«01_k».proof.Proof.Gen.Kernel8Ideal.Value
public import proofs.«01_k».proof.Proof.Gen.Reference8Ideal.Run
public import proofs.«01_k».proof.Proof.In.Entry

@[expose] public section

set_option maxRecDepth 16384

noncomputable section

namespace Cert.In.Gla

/-- The column of the combined weight that a column of this call's weight is, if it is not padding. -/
def col (f : Fin 1792) : Option (Fin 13384) :=
  if _ : f.val < 1024 then some ⟨3096 + f.val, by omega⟩
  else if _ : f.val < 1536 then some ⟨3112 + f.val, by omega⟩
  else if _ : f.val < 1552 then some ⟨2584 + f.val, by omega⟩
  else none

end Cert.In.Gla

namespace Cert.Reference8Ideal.In

open Cert.Reference8Ideal Cert.Reference8Ideal.Gen Idealize.ShloMosaic Idealize.ShloMosaic.TcCoe Idealize.ShloMosaic.Tactic Idealize.SL.Sem
open Cert.In

/-- The mixer's columns of the product. -/
def part (p : FVec Ideal S4x4096x13384 .f32) : FVec Ideal S4x4096x1552 .f32 :=
  extractStridedSlice S4x4096x1552 ![0, 0, 3096] p slices_S4x4096x13384_S4x4096x1552_0_0_3096

/-- The parts of the product, in the order in which the call returns them. -/
def order (p : FVec Ideal S4x4096x13384 .f32) : FVec Ideal S16384x1792 .f32 :=
  shapeCast _ (concatenate S4x4096x1792 2 [
    ⟨S4x4096x256, extractStridedSlice S4x4096x256 ![0, 0, 0] (part p) slices_S4x4096x1552_S4x4096x256_0_0_0⟩,
    ⟨S4x4096x256, extractStridedSlice S4x4096x256 ![0, 0, 256] (part p) slices_S4x4096x1552_S4x4096x256_0_0_256⟩,
    ⟨S4x4096x512, extractStridedSlice S4x4096x512 ![0, 0, 512] (part p) slices_S4x4096x1552_S4x4096x512_0_0_512⟩,
    ⟨S4x4096x512, extractStridedSlice S4x4096x512 ![0, 0, 1040] (part p) slices_S4x4096x1552_S4x4096x512_0_0_1040⟩,
    ⟨S4x4096x16, extractStridedSlice S4x4096x16 ![0, 0, 1024] (part p) slices_S4x4096x1552_S4x4096x16_0_0_1024⟩,
    ⟨S4x4096x240, broadcastInDim S4x4096x240 ![] bcast_S_S4x4096x240 (constant (F := Ideal) S_ .f32 0x00000000#32)⟩] concatenates_S4x4096x256_S4x4096x256_S4x4096x512_S4x4096x512_S4x4096x16_S4x4096x240_S4x4096x1792_d2) shapeCasts_S4x4096x1792_S16384x1792

/-- The ordered parts at an index. -/
theorem order_at (p : FVec Ideal S4x4096x13384 .f32) (r : Fin 16384) (f : Fin 1792) : order p (ix2 r f) = pick (flat p r) (Gla.col f) := by
  have hf := f.isLt
  unfold Gla.col
  split_ifs <;> pointwise [order, part] <;> split_ifs <;> first | omega | rfl | exact congrArg p (by blk_ext)

end Cert.Reference8Ideal.In

namespace Cert.Kernel8Ideal.In

open Cert.Kernel8Ideal Cert.Kernel8Ideal.Gen Idealize.ShloMosaic Idealize.ShloMosaic.TcCoe Idealize.ShloMosaic.Tactic Idealize.SL.Sem
open Cert.In
open Cert.Kernel2Ideal.Up (rows)

/-- The mixer's columns of the combined weight. -/
def part (w : FVec Ideal S2048x13384 .f32) : FVec Ideal S2048x1552 .f32 :=
  extractStridedSlice S2048x1552 ![0, 3096] w slices_S2048x13384_S2048x1552_0_3096

/-- The weight as the host lays it out. -/
def weight (w : FVec Ideal S2048x13384 .f32) : FVec Ideal S2048x1792 .bf16 :=
  truncf .bf16 (concatenate S2048x1792 1 [
    ⟨S2048x1024, extractStridedSlice S2048x1024 ![0, 0] (part w) slices_S2048x1552_S2048x1024_0_0⟩,
    ⟨S2048x512, extractStridedSlice S2048x512 ![0, 1040] (part w) slices_S2048x1552_S2048x512_0_1040⟩,
    ⟨S2048x16, extractStridedSlice S2048x16 ![0, 1024] (part w) slices_S2048x1552_S2048x16_0_1024⟩,
    ⟨S2048x240, broadcastInDim S2048x240 ![] bcast_S_S2048x240 (constant (F := Ideal) S_ .f32 0x00000000#32)⟩] concatenates_S2048x1024_S2048x512_S2048x16_S2048x240_S2048x1792_d1) bitsLt_bf16_f32

/-- The weight's elements. -/
theorem weight_at (w : FVec Ideal S2048x13384 .f32) (k : Fin 2048) (f : Fin 1792) :
    weight w (ix2 k f) = pick (fun c => w (ix2 k c)) (Gla.col f) := by
  have hf := f.isLt
  unfold Gla.col
  split_ifs <;> pointwise [weight, part] <;> split_ifs <;> first | omega | rfl | exact congrArg w (by blk_ext)

variable (m : (ℓ : Loc nD τ sig) → Buf (Elt Ideal) ℓ)

/-- Where each window's block sits. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

open StableHlo in
/-- What the host puts into the windows' arrays. -/
theorem host (c : Dev nD) : V m c (Pipeline.arrRef spec0 0) = rows (m ((c : Thread nD τ).loc main_arg0))
    ∧ V m c (Pipeline.arrRef spec0 1) = weight (m ((c : Thread nD τ).loc main_arg1)) := by
  change StableHlo.after hostOps0 _ (Proc.devRef .tc main_v7) = _ ∧ StableHlo.after hostOps0 _ (Proc.devRef .tc main_v8) = _
  constructor <;> after_results <;> rfl

/-- What the body stores at a row and a column of the block. -/
theorem pay_at (x : Vec Ideal S1024x2048 .bf16) (v : Vec Ideal S2048x896 .bf16) (a : Fin 1024) (b : Fin 896) :
    k0_pay1 (F := Ideal) x v (ix2 a b) = ∑ k : Fin 2048, x (ix2 a k) * v (ix2 k b) := by
  pointwise [k0_pay1]

/-- The array after the run is the reference's. -/
theorem final (c : Dev nD) : (dats m 0 c).arrAt 2 (cfgs 0).N
    = Cert.Reference8Ideal.In.order (proj (m ((c : Thread nD τ).loc main_arg0)) (m ((c : Thread nD τ).loc main_arg1))) := by
  refine (dats m 0 c).arrAt_eq_of_covers 2 _ (by decide +kernel) fun t _ y => ?_
  blk_simp
  rw [after0_2]
  frame_out
  obtain ⟨e0, e1, e⟩ := idx t
  obtain ⟨v0, v1⟩ := host m c
  exact tile _ _ Gla.col _ _ (iblk m c 0 t) (iblk m c 1 t) _ (t.val / 2) (t.val % 2) _ _ (pay_at _ _) (weight_at _)
    (Cert.Reference8Ideal.In.order_at _) (fun _ => congrFun v0 _) (fun _ => congrFun v1 _)
    (fun _ => by simp [e0] <;> omega) (fun _ => by simp [e1] <;> omega) y _ (by simp [e] <;> omega)

end Cert.Kernel8Ideal.In

end
-- ==== Proof.In.Nsa.lean ====
/- NSA's input projection of the values and the gates: some columns of the combined weight, and padding. -/
module

public import proofs.«01_k».proof.Proof.Gen.Kernel9Ideal.Value
public import proofs.«01_k».proof.Proof.Gen.Reference9Ideal.Run
public import proofs.«01_k».proof.Proof.In.Entry

@[expose] public section

set_option maxRecDepth 16384

noncomputable section

namespace Cert.In.Nsa

/-- The column of the combined weight that a column of this call's weight is, if it is not padding. -/
def col (f : Fin 512) : Option (Fin 13384) :=
  if _ : f.val < 128 then some ⟨640 + f.val, by omega⟩
  else if _ : f.val < 256 then some ⟨768 + f.val, by omega⟩
  else if _ : f.val < 408 then some ⟨896 + f.val, by omega⟩
  else none

end Cert.In.Nsa

namespace Cert.Reference9Ideal.In

open Cert.Reference9Ideal Cert.Reference9Ideal.Gen Idealize.ShloMosaic Idealize.ShloMosaic.TcCoe Idealize.ShloMosaic.Tactic Idealize.SL.Sem
open Cert.In

/-- The mixer's columns of the product. -/
def part (p : FVec Ideal S4x4096x13384 .f32) : FVec Ideal S4x4096x1304 .f32 :=
  extractStridedSlice S4x4096x1304 ![0, 0, 0] p slices_S4x4096x13384_S4x4096x1304_0_0_0

/-- The parts of the product, in the order in which the call returns them. -/
def order (p : FVec Ideal S4x4096x13384 .f32) : FVec Ideal S16384x512 .f32 :=
  shapeCast _ (concatenate S4x4096x512 2 [
    ⟨S4x4096x128, extractStridedSlice S4x4096x128 ![0, 0, 640] (part p) slices_S4x4096x1304_S4x4096x128_0_0_640⟩,
    ⟨S4x4096x128, extractStridedSlice S4x4096x128 ![0, 0, 896] (part p) slices_S4x4096x1304_S4x4096x128_0_0_896⟩,
    ⟨S4x4096x128, extractStridedSlice S4x4096x128 ![0, 0, 1152] (part p) slices_S4x4096x1304_S4x4096x128_0_0_1152⟩,
    ⟨S4x4096x24, extractStridedSlice S4x4096x24 ![0, 0, 1280] (part p) slices_S4x4096x1304_S4x4096x24_0_0_1280⟩,
    ⟨S4x4096x104, broadcastInDim S4x4096x104 ![] bcast_S_S4x4096x104 (constant (F := Ideal) S_ .f32 0x00000000#32)⟩] concatenates_S4x4096x128_S4x4096x128_S4x4096x128_S4x4096x24_S4x4096x104_S4x4096x512_d2) shapeCasts_S4x4096x512_S16384x512

/-- The ordered parts at an index. -/
theorem order_at (p : FVec Ideal S4x4096x13384 .f32) (r : Fin 16384) (f : Fin 512) : order p (ix2 r f) = pick (flat p r) (Nsa.col f) := by
  have hf := f.isLt
  unfold Nsa.col
  split_ifs <;> pointwise [order, part] <;> split_ifs <;> first | omega | rfl | exact congrArg p (by blk_ext)

end Cert.Reference9Ideal.In

namespace Cert.Kernel9Ideal.In

open Cert.Kernel9Ideal Cert.Kernel9Ideal.Gen Idealize.ShloMosaic Idealize.ShloMosaic.TcCoe Idealize.ShloMosaic.Tactic Idealize.SL.Sem
open Cert.In
open Cert.Kernel2Ideal.Up (rows)

/-- The mixer's columns of the combined weight. -/
def part (w : FVec Ideal S2048x13384 .f32) : FVec Ideal S2048x1304 .f32 :=
  extractStridedSlice S2048x1304 ![0, 0] w slices_S2048x13384_S2048x1304_0_0

/-- The weight as the host lays it out. -/
def weight (w : FVec Ideal S2048x13384 .f32) : FVec Ideal S2048x512 .bf16 :=
  truncf .bf16 (concatenate S2048x512 1 [
    ⟨S2048x128, extractStridedSlice S2048x128 ![0, 640] (part w) slices_S2048x1304_S2048x128_0_640⟩,
    ⟨S2048x128, extractStridedSlice S2048x128 ![0, 896] (part w) slices_S2048x1304_S2048x128_0_896⟩,
    ⟨S2048x128, extractStridedSlice S2048x128 ![0, 1152] (part w) slices_S2048x1304_S2048x128_0_1152⟩,
    ⟨S2048x24, extractStridedSlice S2048x24 ![0, 1280] (part w) slices_S2048x1304_S2048x24_0_1280⟩,
    ⟨S2048x104, broadcastInDim S2048x104 ![] bcast_S_S2048x104 (constant (F := Ideal) S_ .f32 0x00000000#32)⟩] concatenates_S2048x128_S2048x128_S2048x128_S2048x24_S2048x104_S2048x512_d1) bitsLt_bf16_f32

/-- The weight's elements. -/
theorem weight_at (w : FVec Ideal S2048x13384 .f32) (k : Fin 2048) (f : Fin 512) :
    weight w (ix2 k f) = pick (fun c => w (ix2 k c)) (Nsa.col f) := by
  have hf := f.isLt
  unfold Nsa.col
  split_ifs <;> pointwise [weight, part] <;> split_ifs <;> first | omega | rfl | exact congrArg w (by blk_ext)

variable (m : (ℓ : Loc nD τ sig) → Buf (Elt Ideal) ℓ)

/-- Where each window's block sits. -/
theorem idx : ∀ t : Fin cfg0.N, win0_0.index t = ![t.val, 0] ∧ win0_1.index t = ![0, 0] ∧ win0_2.index t = ![t.val, 0] :=
  (by decide +kernel : ∀ t : Fin grid0.N, _)

open StableHlo in
/-- What the host puts into the windows' arrays. -/
theorem host (c : Dev nD) : V m c (Pipeline.arrRef spec0 0) = rows (m ((c : Thread nD τ).loc main_arg0))
    ∧ V m c (Pipeline.arrRef spec0 1) = weight (m ((c : Thread nD τ).loc main_arg1)) := by
  change StableHlo.after hostOps0 _ (Proc.devRef .tc main_v6) = _ ∧ StableHlo.after hostOps0 _ (Proc.devRef .tc main_v9) = _
  constructor <;> after_results <;> rfl

/-- What the body stores at a row and a column of the block. -/
theorem pay_at (x : Vec Ideal S1024x2048 .bf16) (v : Vec Ideal S2048x512 .bf16) (a : Fin 1024) (b : Fin 512) :
    k0_pay1 (F := Ideal) x v (ix2 a b) = ∑ k : Fin 2048, x (ix2 a k) * v (ix2 k b) := by
  pointwise [k0_pay1]

/-- The array after the run is the reference's. -/
theorem final (c : Dev nD) : (dats m 0 c).arrAt 2 (cfgs 0).N
    = Cert.Reference9Ideal.In.order (proj (m ((c : Thread nD τ).loc main_arg0)) (m ((c : Thread nD τ).loc main_arg1))) := by
  refine (dats m 0 c).arrAt_eq_of_covers 2 _ (by decide +kernel) fun t _ y => ?_
  blk_simp
  rw [after0_2]
  frame_out
  obtain ⟨e0, e1, e⟩ := idx t
  obtain ⟨v0, v1⟩ := host m c
  exact tile _ _ Nsa.col _ _ (iblk m c 0 t) (iblk m c 1 t) _ t.val 0 _ _ (pay_at _ _) (weight_at _)
    (Cert.Reference9Ideal.In.order_at _) (fun _ => congrFun v0 _) (fun _ => congrFun v1 _)
    (fun _ => by simp [e0] <;> omega) (fun _ => by simp [e1] <;> omega) y _ (by simp [e] <;> omega)

end Cert.Kernel9Ideal.In

end
-- ==== Proof.In.Query.lean ====
/- The latent attention's input projection of its queries' latents. -/
module

public import proofs.«01_k».proof.Proof.Gen.Kernel10Ideal.Value
public import proofs.«01_k».proof.Proof.Gen.Reference10Ideal.Run
public import proofs.«01_k».proof.Proof.In.Entry

@[expose] public section

set_option maxRecDepth 16384

noncomputable section

namespace Cert.In.Query

/-- The column of the combined weight that a column of this call's weight is. -/
def col (f : Fin 384) : Option (Fin 13384) :=
  some ⟨4648 + f.val, by omega⟩

end Cert.In.Query

namespace Cert.Reference10Ideal.In

open Cert.Reference10Ideal Cert.Reference10Ideal.Gen Idealize.ShloMosaic Idealize.ShloMosaic.TcCoe Idealize.ShloMosaic.Tactic Idealize.SL.Sem
open Cert.In

/-- The mixer's columns of the product. -/
def part (p : FVec Ideal S4x4096x13384 .f32) : FVec Ideal S4x4096x544 .f32 :=
  extractStridedSlice S4x4096x544 ![0, 0, 4648] p slices_S4x4096x13384_S4x4096x544_0_0_4648

/-- The part of the product that the call returns. -/
def order (p : FVec Ideal S4x4096x13384 .f32) : FVec Ideal S16384x384 .f32 :=
  shapeCast _ (extractStridedSlice S4x4096x384 ![0, 0, 0] (part p) slices_S4x4096x544_S4x4096x384_0_0_0) shapeCasts_S4x4096x384_S16384x384

/-- The ordered parts at an index. -/
theorem order_at (p : FVec Ideal S4x4096x13384 .f32) (r : Fin 16384) (f : Fin 384) : order p (ix2 r f) = pick (flat p r) (Query.col f) := by
  pointwise [order, part]
  exact congrArg p (by blk_ext)

end Cert.Reference10Ideal.In

namespace Cert.Kernel10Ideal.In

open Cert.Kernel10Ideal Cert.Kernel10Ideal.Gen Idealize.ShloMosaic Idealize.ShloMosaic.TcCoe Idealize.ShloMosaic.Tactic Idealize.SL.Sem
open Cert.In
open Cert.Kernel2Ideal.Up (rows)

/-- The mixer's columns of the combined weight. -/
def part (w : FVec Ideal S2048x13384 .f32) : FVec Ideal S2048x544 .f32 :=
  extractStridedSlice S2048x544 ![0, 4648] w slices_S2048x13384_S2048x544_0_4648

/-- The weight as the host lays it out. -/
def weight (w : FVec Ideal S2048x13384 .f32) : FVec Ideal S2048x384 .bf16 :=
  truncf .bf16 (extractStridedSlice S2048x384 ![0, 0] (part w) slices_S2048x544_S2048x384_0_0) bitsLt_bf16_f32

/-- The weight's elements. -/
theorem weight_at (w : FVec Ideal S2048x13384 .f32) (k : Fin 2048) (f : Fin 384) :
    weight w (ix2 k f) = pick (fun c => w (ix2 k c)) (Query.col f) := by
  pointwise [weight, part]
  exact congrArg w (by blk_ext)

variable (m : (ℓ : Loc nD τ sig) → Buf (Elt Ideal) ℓ)

/-- Where each window's block sits. -/
theorem idx : ∀ t : Fin cfg0.N, win0_0.index t = ![t.val, 0] ∧ win0_1.index t = ![0, 0] ∧ win0_2.index t = ![t.val, 0] :=
  (by decide +kernel : ∀ t : Fin grid0.N, _)

open StableHlo in
/-- What the host puts into the windows' arrays. -/
theorem host (c : Dev nD) : V m c (Pipeline.arrRef spec0 0) = rows (m ((c : Thread nD τ).loc main_arg0))
    ∧ V m c (Pipeline.arrRef spec0 1) = weight (m ((c : Thread nD τ).loc main_arg1)) := by
  change StableHlo.after hostOps0 _ (Proc.devRef .tc main_v2) = _ ∧ StableHlo.after hostOps0 _ (Proc.devRef .tc main_v4) = _
  constructor <;> after_results <;> rfl

/-- What the body stores at a row and a column of the block. -/
theorem pay_at (x : Vec Ideal S1024x2048 .bf16) (v : Vec Ideal S2048x384 .bf16) (a : Fin 1024) (b : Fin 384) :
    k0_pay1 (F := Ideal) x v (ix2 a b) = ∑ k : Fin 2048, x (ix2 a k) * v (ix2 k b) := by
  pointwise [k0_pay1]

/-- The array after the run is the reference's. -/
theorem final (c : Dev nD) : (dats m 0 c).arrAt 2 (cfgs 0).N
    = Cert.Reference10Ideal.In.order (proj (m ((c : Thread nD τ).loc main_arg0)) (m ((c : Thread nD τ).loc main_arg1))) := by
  refine (dats m 0 c).arrAt_eq_of_covers 2 _ (by decide +kernel) fun t _ y => ?_
  blk_simp
  rw [after0_2]
  frame_out
  obtain ⟨e0, e1, e⟩ := idx t
  obtain ⟨v0, v1⟩ := host m c
  exact tile _ _ Query.col _ _ (iblk m c 0 t) (iblk m c 1 t) _ t.val 0 _ _ (pay_at _ _) (weight_at _)
    (Cert.Reference10Ideal.In.order_at _) (fun _ => congrFun v0 _) (fun _ => congrFun v1 _)
    (fun _ => by simp [e0] <;> omega) (fun _ => by simp [e1] <;> omega) y _ (by simp [e] <;> omega)

end Cert.Kernel10Ideal.In

end
-- ==== Proof.In.Latent.lean ====
/- The latent attention's input projection of its keys' and values' latents. -/
module

public import proofs.«01_k».proof.Proof.Gen.Kernel11Ideal.Value
public import proofs.«01_k».proof.Proof.Gen.Reference11Ideal.Run
public import proofs.«01_k».proof.Proof.In.Entry

@[expose] public section

set_option maxRecDepth 16384

noncomputable section

namespace Cert.In.Latent

/-- The column of the combined weight that a column of this call's weight is. -/
def col (f : Fin 128) : Option (Fin 13384) :=
  some ⟨5032 + f.val, by omega⟩

end Cert.In.Latent

namespace Cert.Reference11Ideal.In

open Cert.Reference11Ideal Cert.Reference11Ideal.Gen Idealize.ShloMosaic Idealize.ShloMosaic.TcCoe Idealize.ShloMosaic.Tactic Idealize.SL.Sem
open Cert.In

/-- The mixer's columns of the product. -/
def part (p : FVec Ideal S4x4096x13384 .f32) : FVec Ideal S4x4096x544 .f32 :=
  extractStridedSlice S4x4096x544 ![0, 0, 4648] p slices_S4x4096x13384_S4x4096x544_0_0_4648

/-- The part of the product that the call returns. -/
def order (p : FVec Ideal S4x4096x13384 .f32) : FVec Ideal S16384x128 .f32 :=
  shapeCast _ (extractStridedSlice S4x4096x128 ![0, 0, 384] (part p) slices_S4x4096x544_S4x4096x128_0_0_384) shapeCasts_S4x4096x128_S16384x128

/-- The ordered parts at an index. -/
theorem order_at (p : FVec Ideal S4x4096x13384 .f32) (r : Fin 16384) (f : Fin 128) : order p (ix2 r f) = pick (flat p r) (Latent.col f) := by
  pointwise [order, part]
  exact congrArg p (by blk_ext)

end Cert.Reference11Ideal.In

namespace Cert.Kernel11Ideal.In

open Cert.Kernel11Ideal Cert.Kernel11Ideal.Gen Idealize.ShloMosaic Idealize.ShloMosaic.TcCoe Idealize.ShloMosaic.Tactic Idealize.SL.Sem
open Cert.In
open Cert.Kernel2Ideal.Up (rows)

/-- The mixer's columns of the combined weight. -/
def part (w : FVec Ideal S2048x13384 .f32) : FVec Ideal S2048x544 .f32 :=
  extractStridedSlice S2048x544 ![0, 4648] w slices_S2048x13384_S2048x544_0_4648

/-- The weight as the host lays it out. -/
def weight (w : FVec Ideal S2048x13384 .f32) : FVec Ideal S2048x128 .bf16 :=
  truncf .bf16 (extractStridedSlice S2048x128 ![0, 384] (part w) slices_S2048x544_S2048x128_0_384) bitsLt_bf16_f32

/-- The weight's elements. -/
theorem weight_at (w : FVec Ideal S2048x13384 .f32) (k : Fin 2048) (f : Fin 128) :
    weight w (ix2 k f) = pick (fun c => w (ix2 k c)) (Latent.col f) := by
  pointwise [weight, part]
  exact congrArg w (by blk_ext)

variable (m : (ℓ : Loc nD τ sig) → Buf (Elt Ideal) ℓ)

/-- Where each window's block sits. -/
theorem idx : ∀ t : Fin cfg0.N, win0_0.index t = ![t.val, 0] ∧ win0_1.index t = ![0, 0] ∧ win0_2.index t = ![t.val, 0] :=
  (by decide +kernel : ∀ t : Fin grid0.N, _)

open StableHlo in
/-- What the host puts into the windows' arrays. -/
theorem host (c : Dev nD) : V m c (Pipeline.arrRef spec0 0) = rows (m ((c : Thread nD τ).loc main_arg0))
    ∧ V m c (Pipeline.arrRef spec0 1) = weight (m ((c : Thread nD τ).loc main_arg1)) := by
  change StableHlo.after hostOps0 _ (Proc.devRef .tc main_v2) = _ ∧ StableHlo.after hostOps0 _ (Proc.devRef .tc main_v4) = _
  constructor <;> after_results <;> rfl

/-- What the body stores at a row and a column of the block. -/
theorem pay_at (x : Vec Ideal S1024x2048 .bf16) (v : Vec Ideal S2048x128 .bf16) (a : Fin 1024) (b : Fin 128) :
    k0_pay1 (F := Ideal) x v (ix2 a b) = ∑ k : Fin 2048, x (ix2 a k) * v (ix2 k b) := by
  pointwise [k0_pay1]

/-- The array after the run is the reference's. -/
theorem final (c : Dev nD) : (dats m 0 c).arrAt 2 (cfgs 0).N
    = Cert.Reference11Ideal.In.order (proj (m ((c : Thread nD τ).loc main_arg0)) (m ((c : Thread nD τ).loc main_arg1))) := by
  refine (dats m 0 c).arrAt_eq_of_covers 2 _ (by decide +kernel) fun t _ y => ?_
  blk_simp
  rw [after0_2]
  frame_out
  obtain ⟨e0, e1, e⟩ := idx t
  obtain ⟨v0, v1⟩ := host m c
  exact tile _ _ Latent.col _ _ (iblk m c 0 t) (iblk m c 1 t) _ t.val 0 _ _ (pay_at _ _) (weight_at _)
    (Cert.Reference11Ideal.In.order_at _) (fun _ => congrFun v0 _) (fun _ => congrFun v1 _)
    (fun _ => by simp [e0] <;> omega) (fun _ => by simp [e1] <;> omega) y _ (by simp [e] <;> omega)

end Cert.Kernel11Ideal.In

end
-- ==== Proof.In.Keys.lean ====
/- The latent attention's projection of its normed latents to keys and values. -/
module

public import proofs.«01_k».proof.Proof.Gen.Kernel12Ideal.Value
public import proofs.«01_k».proof.Proof.Gen.Reference12Ideal.Run
public import proofs.«01_k».proof.Proof.In.Entry

@[expose] public section

set_option maxRecDepth 16384

noncomputable section

namespace Cert.In.Keys

open Idealize.ShloMosaic Idealize.ShloMosaic.TcCoe Idealize.ShloMosaic.Tactic Idealize.SL.Sem

/-- A latent divided by the root of the mean of its squares (with the small constant under the root), with its gain. -/
def normed (x g : Fin 128 → EReal) (d : Fin 128) : EReal :=
  x d * Ideal.rsqrt (Ideal.div (∑ k, x k * x k) (Ideal.ofBits .f32 0x43000000#32) + Ideal.ofBits .f32 0x358637BD#32) * g d

end Cert.In.Keys

namespace Cert.Reference12Ideal.In

open Cert.Reference12Ideal Cert.Reference12Ideal.Gen Idealize.ShloMosaic Idealize.ShloMosaic.TcCoe Idealize.ShloMosaic.Tactic Idealize.SL.Sem
open Cert.In

/-- The reference's norm over the last axis, with its gain. -/
def norm (x : FVec Ideal S4x4096x128 .f32) (g : FVec Ideal S128 .f32) : FVec Ideal S4x4096x128 .f32 :=
  mulf (mulf x (broadcastInDim S4x4096x128 ![0, 1, 2] bcast_S4x4096x1_S4x4096x128_0_1_2 (Host.rsqrt (addf (Host.divf (broadcastInDim S4x4096x1 ![0, 1] bcast_S4x4096_S4x4096x1_0_1 (Host.reduceAdd (mulf x x) (constant S_ .f32 0x00000000#32) reducesTo_S4x4096x128_S4x4096_d2 h_S_)) (broadcastInDim S4x4096x1 ![] bcast_S_S4x4096x1 (constant S_ .f32 0x43000000#32))) (broadcastInDim S4x4096x1 ![] bcast_S_S4x4096x1 (constant S_ .f32 0x358637BD#32)))))) (broadcastInDim S4x4096x128 ![0, 1, 2] bcast_S1x1x128_S4x4096x128_0_1_2 (broadcastInDim S1x1x128 ![2] bcast_S128_S1x1x128_2 g))

/-- The reference's array. -/
def keys (x : FVec Ideal S4x4096x128 .f32) (g : FVec Ideal S128 .f32) (w : FVec Ideal S128x1024 .f32) : FVec Ideal S16384x1024 .f32 :=
  shapeCast _ (Host.dotGeneral dot_S4x4096x128_S128x1024_S4x4096x1024_2_0_01_1_n_n none (norm x g) w) shapeCasts_S4x4096x1024_S16384x1024

/-- An element of the normed latents. -/
theorem norm_at (x : FVec Ideal S4x4096x128 .f32) (g : FVec Ideal S128 .f32) (b : Fin 4) (s : Fin 4096) (d : Fin 128) :
    norm x g (ix3 b s d) = Keys.normed (fun k => x (ix3 b s k)) (fun k => g (ix1 k)) d := by
  pointwise [norm, Keys.normed]

/-- An element of the reference's array. -/
theorem keys_at (x : FVec Ideal S4x4096x128 .f32) (g : FVec Ideal S128 .f32) (w : FVec Ideal S128x1024 .f32) (r : Fin 16384) (f : Fin 1024) :
    keys x g w (ix2 r f) = ∑ k : Fin 128, Keys.normed (flat x r) (fun k => g (ix1 k)) k * w (ix2 k f) := by
  have e : keys x g w (ix2 r f) = ∑ k : Fin 128, flat (norm x g) r k * w (ix2 k f) := by
    unfold flat
    pointwise [keys]
  exact e.trans (Finset.sum_congr rfl fun k _ => congrArg (· * w (ix2 k f)) (norm_at x g _ _ k))

end Cert.Reference12Ideal.In

namespace Cert.Kernel12Ideal.In

open Cert.Kernel12Ideal Cert.Kernel12Ideal.Gen Idealize.ShloMosaic Idealize.ShloMosaic.TcCoe Idealize.ShloMosaic.Tactic Idealize.SL.Sem
open Cert.In

/-- The latents, rows after rows. -/
def rows (x : FVec Ideal S4x4096x128 .f32) : FVec Ideal S16384x128 .f32 := shapeCast _ x shapeCasts_S4x4096x128_S16384x128

/-- A row of them. -/
theorem rows_at (x : FVec Ideal S4x4096x128 .f32) (r : Fin 16384) (k : Fin 128) : rows x (ix2 r k) = flat x r k := by
  unfold flat
  pointwise [rows]

/-- The gain as an array of one row. -/
def gain (g : FVec Ideal S128 .f32) : FVec Ideal S1x128 .f32 := shapeCast _ g shapeCasts_S128_S1x128

/-- Its element at a component. -/
theorem gain_at (g : FVec Ideal S128 .f32) (k : Fin 128) : gain g (ix2 0 k) = g (ix1 k) := by
  pointwise [gain]

variable (m : (ℓ : Loc nD τ sig) → Buf (Elt Ideal) ℓ)

/-- Where each window's block sits. -/
theorem idx : ∀ t : Fin cfg0.N, win0_0.index t = ![t.val / 2, 0] ∧ win0_1.index t = ![0, 0] ∧ win0_2.index t = ![0, t.val % 2]
    ∧ win0_3.index t = ![t.val / 2, t.val % 2] :=
  (by decide +kernel : ∀ t : Fin grid0.N, _)

open StableHlo in
/-- What the host puts into the windows' arrays. -/
theorem host (c : Dev nD) : V m c (Pipeline.arrRef spec0 0) = rows (m ((c : Thread nD τ).loc main_arg0))
    ∧ V m c (Pipeline.arrRef spec0 1) = gain (m ((c : Thread nD τ).loc main_arg1))
    ∧ V m c (Pipeline.arrRef spec0 2) = (truncf .bf16 (m ((c : Thread nD τ).loc main_arg2) : FVec Ideal S128x1024 .f32) bitsLt_bf16_f32 : FVec Ideal S128x1024 .bf16) := by
  change StableHlo.after hostOps0 _ (Proc.devRef .tc main_v0) = _ ∧ StableHlo.after hostOps0 _ (Proc.devRef .tc main_v1) = _
    ∧ StableHlo.after hostOps0 _ (Proc.devRef .tc main_v2) = _
  refine ⟨?_, ?_, ?_⟩ <;> after_results <;> rfl

/-- What the body stores at a row and a column of the block. -/
theorem pay_at (x : Vec Ideal S1024x128 .f32) (g : Vec Ideal S1x128 .f32) (w : Vec Ideal S128x512 .bf16) (a : Fin 1024) (b : Fin 512) :
    k0_pay1 (F := Ideal) x g w (ix2 a b) = ∑ k : Fin 128, Keys.normed (fun k => x (ix2 a k)) (fun k => g (ix2 0 k)) k * w (ix2 k b) := by
  pointwise [k0_pay1, Keys.normed]

/-- The array after the run is the reference's. -/
theorem final (c : Dev nD) : (dats m 0 c).arrAt 3 (cfgs 0).N
    = Cert.Reference12Ideal.In.keys (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨e0, e1, e2, e⟩ := idx t
  obtain ⟨v0, v1, v2⟩ := host m c
  refine place _ (Cert.Reference12Ideal.In.keys _ _ _) (t.val / 2) (t.val % 2) y _ (fun a b r f hr hf => ?_) (by simp [e] <;> omega) (by simp [e] <;> omega)
  refine (pay_at _ _ _ a b).trans (Eq.trans ?_ (Cert.Reference12Ideal.In.keys_at _ _ _ r f).symm)
  have h0 : ∀ k, iblk m c 0 t (ix2 a k) = flat (m ((c : Thread nD τ).loc main_arg0)) r k := fun k =>
    (congrFun v0 _).trans ((congrArg (rows _) (by blk_ext [e0, hr])).trans (rows_at _ r k))
  have h1 : ∀ k, iblk m c 1 t (ix2 0 k) = m ((c : Thread nD τ).loc main_arg1) (ix1 k) := fun k =>
    (congrFun v1 _).trans ((congrArg (gain _) (by blk_ext [e1])).trans (gain_at _ k))
  have h2 : ∀ k, iblk m c 2 t (ix2 k b) = m ((c : Thread nD τ).loc main_arg2) (ix2 k f) := fun k =>
    (congrFun v2 _).trans (congrArg (m ((c : Thread nD τ).loc main_arg2)) (by blk_ext [e2, hf]))
  exact Finset.sum_congr rfl fun k _ => by rw [funext h0, funext h1, h2]

end Cert.Kernel12Ideal.In

end
-- ==== Proof.In.First.lean ====
/- The first norm: its gain, the scale and the shift of the first sublayer's input, in one call over the rows. -/
module

public import proofs.«01_k».proof.Proof.Gen.Kernel13Ideal.Value
public import proofs.«01_k».proof.Proof.Gen.Reference13Ideal.Run
public import proofs.«01_k».proof.Proof.Ffn.Row
public import proofs.«01_k».proof.Proof.In.Entry

@[expose] public section

set_option maxRecDepth 16384

noncomputable section

namespace Cert.Kernel13Ideal.First

open Cert.Kernel13Ideal Cert.Kernel13Ideal.Gen Idealize.ShloMosaic Idealize.ShloMosaic.TcCoe Idealize.ShloMosaic.Tactic Idealize.SL.Sem
open Cert.Row

variable (m : (ℓ : Loc nD τ sig) → Buf (Elt Ideal) ℓ)

/-- The reference's array. -/
def first (x : FVec Ideal S4x4096x2048 .f32) (g : FVec Ideal S2048 .f32) (scale shift : FVec Ideal S4x1x2048 .f32) : FVec Ideal S16384x2048 .bf16 :=
  truncf .bf16 (Row.flat (modulate (norm x g) scale shift)) bitsLt_bf16_f32

/-- A row of it. -/
theorem first_at (x : FVec Ideal S4x4096x2048 .f32) (g : FVec Ideal S2048 .f32) (scale shift : FVec Ideal S4x1x2048 .f32) (r : Fin 16384) (d : Fin 2048) :
    first x g scale shift (ix2 r d) = nxt (fun k => Row.flat x (ix2 r k)) (fun k => g (ix1 k)) (fun k => scale (ix3 (⟨r.val / 4096, by omega⟩ : Fin 4) 0 k))
      (fun k => shift (ix3 (⟨r.val / 4096, by omega⟩ : Fin 4) 0 k)) d := by
  refine (flat_at _ r d).trans ((next_at _ g scale shift _ _ d).trans ?_)
  rw [funext fun k => flat_at x r k]

/-- What the body stores at a row and a component of the block. -/
theorem pay_at (x : Vec Ideal S512x2048 .f32) (g : Vec Ideal S1x2048 .f32) (scale shift : Vec Ideal S1x1x2048 .f32) (a : Fin 512) (d : Fin 2048) :
    k0_pay1 (F := Ideal) x g scale shift (ix2 a d)
      = nxt (fun k => x (ix2 a k)) (fun k => g (ix2 0 k)) (fun k => scale (ix3 0 0 k)) (fun k => shift (ix3 0 0 k)) d := by
  pointwise [k0_pay1, nxt, rms]

/-- Where each window's block sits. -/
theorem idx : ∀ t : Fin cfg0.N, win0_0.index t = ![t.val, 0] ∧ win0_1.index t = ![0, 0] ∧ win0_2.index t = ![t.val / 8, 0, 0]
    ∧ win0_3.index t = ![t.val / 8, 0, 0] ∧ win0_4.index t = ![t.val, 0] :=
  (by decide +kernel : ∀ t : Fin grid0.N, _)

open StableHlo in
/-- What the host puts into the windows' arrays: the rows and the gain. -/
theorem host (c : Dev nD) : V m c (Pipeline.arrRef spec0 0) = Row.flat (m ((c : Thread nD τ).loc main_arg0))
    ∧ V m c (Pipeline.arrRef spec0 1) = oneRow (m ((c : Thread nD τ).loc main_arg1)) := by
  change StableHlo.after hostOps0 _ (Proc.devRef .tc main_v0) = _ ∧ StableHlo.after hostOps0 _ (Proc.devRef .tc main_v1) = _
  constructor <;> after_results <;> rfl

/-- The array after the run is the reference's. -/
theorem final (c : Dev nD) : (dats m 0 c).arrAt 4 (cfgs 0).N
    = first (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  obtain ⟨e0, e1, e2, e3, e⟩ := idx t
  obtain ⟨v0, v1⟩ := host m c
  refine Cert.In.place _ (first _ _ _ _) t.val 0 y _ (fun a d r f hr hf => ?_) (by simp [e] <;> omega) (by simp [e])
  have hb : r.val / 4096 = t.val / 8 := by omega
  obtain rfl : f = d := Fin.ext (by omega)
  refine (pay_at _ _ _ _ a f).trans (Eq.trans ?_ (first_at _ _ _ _ r f).symm)
  have h0 : ∀ k, iblk m c 0 t (ix2 a k) = Row.flat (m ((c : Thread nD τ).loc main_arg0)) (ix2 r k) := fun k =>
    (congrFun v0 _).trans (congrArg (Row.flat _) (by blk_ext [e0, hr]))
  have h1 : ∀ k, iblk m c 1 t (ix2 0 k) = m ((c : Thread nD τ).loc main_arg1) (ix1 k) := fun k =>
    (congrFun v1 _).trans ((congrArg (oneRow _) (by blk_ext [e1])).trans (oneRow_at _ k))
  have h2 : ∀ k, iblk m c 2 t (ix3 0 0 k) = m ((c : Thread nD τ).loc main_arg2) (ix3 (⟨r.val / 4096, by omega⟩ : Fin 4) 0 k) := fun k =>
    congrArg (m ((c : Thread nD τ).loc main_arg2)) (by blk_ext [e2, hb])
  have h3 : ∀ k, iblk m c 3 t (ix3 0 0 k) = m ((c : Thread nD τ).loc main_arg3) (ix3 (⟨r.val / 4096, by omega⟩ : Fin 4) 0 k) := fun k =>
    congrArg (m ((c : Thread nD τ).loc main_arg3)) (by blk_ext [e3, hb])
  rw [funext h0, funext h1, funext h2, funext h3]

end Cert.Kernel13Ideal.First

end
-- ==== Proof.In.Modulation.lean ====
/- The modulation: scales, shifts and gates of all sublayers, from the conditioning rows. The kernel splits its activated rows
   into a rounded part and the rest; over the extended reals the rest is zero where the rows are real numbers. -/
module

public import proofs.«01_k».proof.Pre_finite_c
public import proofs.«01_k».proof.Proof.Gen.Kernel14Ideal.Value
public import proofs.«01_k».proof.Proof.Gen.Reference14Ideal.Run
public import proofs.«01_k».proof.Proof.Attn.Finite
public import Idealize.ShloMosaic.Lib.Pipeline.ValueKit
public import Idealize.ShloMosaic.Lib.Routing.OpsSet

@[expose] public section

set_option maxRecDepth 16384

noncomputable section

namespace Cert.Pre_finite_c

open Idealize.ShloMosaic

/-- The predicate's side conditions. -/
instance facts : Facts where
  bcast_S_S4x2048 := by decide
  reducesTo_S4x2048_S_d0_1 := by decide
  h_S_ := by decide

/-- If the predicate is one, the conditioning rows' elements are real. -/
theorem reals (a0 : FVec Ideal S4x2048 .f32) (a1 : FVec Ideal S2x3x2048x6144 .f32) (a2 : FVec Ideal S2x3x6144 .f32)
    (h : fn (F := Ideal) a0 a1 a2 = fun _ => 1#1) : Cert.Soft.Reals a0 := by
  have hj := congrFun h (Shape.Idx.first (by decide))
  unfold fn at hj
  have : Subsingleton S_.Idx := ⟨fun i j => funext fun a => a.elim0⟩
  exact fun i => Cert.Pre_finite.real_of_abs _ (Host.reduce_andi_all _ _ _ _ _ hj i)

end Cert.Pre_finite_c

namespace Cert.In.Modulation

open Idealize.ShloMosaic Idealize.ShloMosaic.TcCoe Idealize.ShloMosaic.Tactic Idealize.SL.Sem

/-- A number times its logistic. -/
def silu (x : EReal) : EReal := x * Ideal.logistic x

/-- It is real for a real number. -/
theorem silu_real (x : EReal) (h : x = (x.toReal : EReal)) : ∃ r : ℝ, silu x = (r : EReal) := by
  obtain ⟨r, hr⟩ : ∃ r : ℝ, x = (r : EReal) := ⟨_, h⟩
  subst hr
  have hd : (1 + Real.exp (-r)) ≠ 0 := (add_pos one_pos (Real.exp_pos _)).ne'
  refine ⟨r * (1 / (1 + Real.exp (-r))), ?_⟩
  unfold silu Ideal.logistic
  rw [← EReal.coe_neg, Ideal.exp_coe, ← EReal.coe_one, ← EReal.coe_add, Cert.Soft.div_coe _ _ hd, ← EReal.coe_mul]

/-- So it leaves nothing when it is taken away from itself. -/
theorem silu_sub (x : EReal) (h : x = (x.toReal : EReal)) : silu x - silu x = 0 := by
  obtain ⟨r, hr⟩ := silu_real x h
  rw [hr, ← EReal.coe_sub, sub_self, EReal.coe_zero]

/-- The conditioning rows with rows of zeros behind, at a row and a component. -/
def padded (c : (⟨2, ![4, 2048]⟩ : Shape).Idx → EReal) (a : Fin 8) (k : Fin 2048) : EReal :=
  if h : a.val < 4 then c (ix2 (⟨a.val, h⟩ : Fin 4) k) else 0

/-- Its elements are real if the rows' are. -/
theorem padded_real (c : (⟨2, ![4, 2048]⟩ : Shape).Idx → EReal) (h : Cert.Soft.Reals c) (a : Fin 8) (k : Fin 2048) :
    padded c a k = ((padded c a k).toReal : EReal) := by
  unfold padded
  split
  · exact h _
  · simp

/-- Sublayer `s`'s weight, of both layers' weights one after another. -/
def weight (w : (⟨4, ![2, 3, 2048, 6144]⟩ : Shape).Idx → EReal) (s : Fin 6) (k : Fin 2048) (f : Fin 6144) : EReal :=
  w (ix4 (⟨s.val / 3, by omega⟩ : Fin 2) (⟨s.val % 3, Nat.mod_lt _ (by decide)⟩ : Fin 3) k f)

/-- Sublayer `s`'s bias. -/
def bias (b : (⟨3, ![2, 3, 6144]⟩ : Shape).Idx → EReal) (s : Fin 6) (f : Fin 6144) : EReal :=
  b (ix3 (⟨s.val / 3, by omega⟩ : Fin 2) (⟨s.val % 3, Nat.mod_lt _ (by decide)⟩ : Fin 3) f)

end Cert.In.Modulation

namespace Cert.Reference14Ideal.In

open Cert.Reference14Ideal Cert.Reference14Ideal.Gen Idealize.ShloMosaic Idealize.ShloMosaic.TcCoe Idealize.ShloMosaic.Tactic Idealize.SL.Sem
open Cert.In.Modulation

/-- The reference's conditioning rows, padded. -/
def rows (c : FVec Ideal S4x2048 .f32) : FVec Ideal S8x2048 .f32 :=
  concatenate S8x2048 0 [⟨S4x2048, c⟩, ⟨S4x2048, broadcastInDim S4x2048 ![] bcast_S_S4x2048 (constant (F := Ideal) S_ .f32 0x00000000#32)⟩] concatenates_S4x2048_S4x2048_S8x2048_d0

/-- The reference's product, sublayer after sublayer. -/
def product (u : FVec Ideal S8x2048 .f32) (w : FVec Ideal S2x3x2048x6144 .f32) : FVec Ideal S6x8x6144 .f32 :=
  transpose S6x8x6144 [1, 0, 2] (Host.dotGeneral dot_S8x2048_S6x2048x6144_S8x6x6144_1_1_0_02_n_n none (mulf u (Host.divf (broadcastInDim S8x2048 ![] bcast_S_S8x2048 (constant S_ .f32 0x3F800000#32)) (addf (broadcastInDim S8x2048 ![] bcast_S_S8x2048 (constant S_ .f32 0x3F800000#32)) (Host.exp (Host.negf u))))) (shapeCast _ w shapeCasts_S2x3x2048x6144_S6x2048x6144)) transposes_S8x6x6144_S6x8x6144_1_0_2

/-- The reference's array. -/
def mods (c : FVec Ideal S4x2048 .f32) (w : FVec Ideal S2x3x2048x6144 .f32) (b : FVec Ideal S2x3x6144 .f32) : FVec Ideal S6x8x6144 .f32 :=
  addf (product (rows c) w) (broadcastInDim S6x8x6144 ![0, 1, 2] bcast_S6x1x6144_S6x8x6144_0_1_2 (shapeCast _ b shapeCasts_S2x3x6144_S6x1x6144))

/-- The padded rows at an index. -/
theorem rows_at (c : FVec Ideal S4x2048 .f32) (a : Fin 8) (k : Fin 2048) : rows c (ix2 a k) = padded c a k := by
  unfold padded
  split_ifs <;> pointwise [rows] <;> split_ifs <;> first | omega | rfl | exact congrArg c (by blk_ext)

/-- The product at an index. -/
theorem product_at (u : FVec Ideal S8x2048 .f32) (w : FVec Ideal S2x3x2048x6144 .f32) (s : Fin 6) (a : Fin 8) (f : Fin 6144) :
    product u w (ix3 s a f) = ∑ k : Fin 2048, silu (u (ix2 a k)) * weight w s k f := by
  unfold weight
  pointwise [product, silu, Ideal.logistic]

/-- The reference's array at an index. -/
theorem mods_at (c : FVec Ideal S4x2048 .f32) (w : FVec Ideal S2x3x2048x6144 .f32) (b : FVec Ideal S2x3x6144 .f32) (s : Fin 6) (a : Fin 8) (f : Fin 6144) :
    mods c w b (ix3 s a f) = (∑ k : Fin 2048, silu (padded c a k) * weight w s k f) + bias b s f := by
  have e : mods c w b (ix3 s a f) = product (rows c) w (ix3 s a f) + bias b s f := by
    unfold bias
    pointwise [mods]
  rw [e, product_at]
  exact congrArg (· + bias b s f) (Finset.sum_congr rfl fun k _ => by rw [rows_at])

end Cert.Reference14Ideal.In

namespace Cert.Kernel14Ideal.In

open Cert.Kernel14Ideal Cert.Kernel14Ideal.Gen Idealize.ShloMosaic Idealize.ShloMosaic.TcCoe Idealize.ShloMosaic.Tactic Idealize.SL.Sem
open Cert.In.Modulation

/-- The conditioning rows as the host sets them into an array of zeros. -/
def rows (c : FVec Ideal S4x2048 .f32) : FVec Ideal S8x2048 .f32 :=
  Host.scatter scatter_S8x2048_S1_S4x2048_01_n_0_0 (fun _ b => b) (broadcastInDim S8x2048 ![] bcast_S_S8x2048 (constant (F := Ideal) S_ .f32 0x00000000#32))
    (broadcastInDim S1 ![] bcast_S_S1 (constantI S_ 32 0#32)) c

/-- Each conditioning row is set at its own place. -/
theorem lands (k : S4x2048.Idx) : scatter_S8x2048_S1_S4x2048_01_n_0_0.resultIdx? k (broadcastInDim S1 ![] bcast_S_S1 (constantI S_ 32 0#32))
    = some (ix2 (⟨(k 0).val, by have := (k 0).isLt; exact Nat.lt_of_lt_of_le this (by decide)⟩ : Fin 8) (k 1)) := by
  have hs : ∀ a, scatter_S8x2048_S1_S4x2048_01_n_0_0.start k (broadcastInDim S1 ![] bcast_S_S1 (constantI S_ 32 0#32)) a = 0 := fun a => by
    unfold ScatterDims.start
    split <;> rfl
  have h0 : scatter_S8x2048_S1_S4x2048_01_n_0_0.window k 0 = (k 0).val := rfl
  have h1 : scatter_S8x2048_S1_S4x2048_01_n_0_0.window k 1 = (k 1).val := rfl
  have b0 : (k 0).val < 4 := (k 0).isLt
  have b1 : (k 1).val < 2048 := (k 1).isLt
  unfold ScatterDims.resultIdx?
  rw [dif_pos]
  · refine congrArg some (funext fun a => Fin.ext ?_)
    match a with
    | 0 =>
      change (scatter_S8x2048_S1_S4x2048_01_n_0_0.start k (broadcastInDim S1 ![] bcast_S_S1 (constantI S_ 32 0#32)) 0 + ((scatter_S8x2048_S1_S4x2048_01_n_0_0.window k 0 : Nat) : Int)).toNat = (k 0).val
      rw [hs, h0]
      omega
    | 1 =>
      change (scatter_S8x2048_S1_S4x2048_01_n_0_0.start k (broadcastInDim S1 ![] bcast_S_S1 (constantI S_ 32 0#32)) 1 + ((scatter_S8x2048_S1_S4x2048_01_n_0_0.window k 1 : Nat) : Int)).toNat = (k 1).val
      rw [hs, h1]
      omega
  · intro a
    rw [hs]
    match a with
    | 0 => rw [h0]; show _ ∧ _ < ((8 : Nat) : Int); omega
    | 1 => rw [h1]; show _ ∧ _ < ((2048 : Nat) : Int); omega

/-- The padded rows at an index. -/
theorem rows_at (c : FVec Ideal S4x2048 .f32) (a : Fin 8) (k : Fin 2048) : rows c (ix2 a k) = padded c a k := by
  unfold rows padded
  split
  · rename_i h
    refine Routing.scatter_set_hit _ _ _ _ _ _ (fun j hj => ?_) (ix2 (⟨a.val, h⟩ : Fin 4) k) (lands _)
    rw [lands] at hj
    have e := Option.some.inj hj
    have e0 : (j 0).val = a.val := congrArg Fin.val (congrFun e 0)
    have e1 : (j 1).val = k.val := congrArg Fin.val (congrFun e 1)
    rw [ValueIdx.eq_ix2 j]
    exact congrArg c (congrArg₂ ix2 (Fin.ext e0) (Fin.ext e1))
  · rename_i h
    rw [Routing.scatter_set_miss]
    · pointwise
    · intro j hj
      rw [lands] at hj
      have e0 : (j 0).val = a.val := congrArg Fin.val (congrFun (Option.some.inj hj) 0)
      exact h (e0 ▸ (j 0).isLt)

/-- The weights, sublayer after sublayer. -/
def weights (w : FVec Ideal S2x3x2048x6144 .f32) : FVec Ideal S6x2048x6144 .f32 := shapeCast _ w shapeCasts_S2x3x2048x6144_S6x2048x6144

/-- An element of them. -/
theorem weights_at (w : FVec Ideal S2x3x2048x6144 .f32) (s : Fin 6) (k : Fin 2048) (f : Fin 6144) : weights w (ix3 s k f) = weight w s k f := by
  unfold weight
  pointwise [weights]

/-- The biases, sublayer after sublayer. -/
def biases (b : FVec Ideal S2x3x6144 .f32) : FVec Ideal S6x1x6144 .f32 := shapeCast _ b shapeCasts_S2x3x6144_S6x1x6144

/-- An element of them. -/
theorem biases_at (b : FVec Ideal S2x3x6144 .f32) (s : Fin 6) (f : Fin 6144) : biases b (ix3 s 0 f) = bias b s f := by
  unfold bias
  pointwise [biases]

variable (m : (ℓ : Loc nD τ sig) → Buf (Elt Ideal) ℓ)

/-- Where each window's block sits. -/
theorem idx : ∀ t : Fin cfg0.N, win0_0.index t = ![0, 0] ∧ win0_1.index t = ![t.val / 12, 0, t.val % 12] ∧ win0_2.index t = ![t.val / 12, 0, t.val % 12]
    ∧ win0_3.index t = ![t.val / 12, 0, t.val % 12] :=
  (by decide +kernel : ∀ t : Fin grid0.N, _)

open StableHlo in
/-- What the host puts into the windows' arrays. -/
theorem host (c : Dev nD) : V m c (Pipeline.arrRef spec0 0) = rows (m ((c : Thread nD τ).loc main_arg0))
    ∧ V m c (Pipeline.arrRef spec0 1) = weights (m ((c : Thread nD τ).loc main_arg1))
    ∧ V m c (Pipeline.arrRef spec0 2) = biases (m ((c : Thread nD τ).loc main_arg2)) := by
  change StableHlo.after hostOps0 _ (Proc.devRef .tc main_v4) = _ ∧ StableHlo.after hostOps0 _ (Proc.devRef .tc main_v0) = _
    ∧ StableHlo.after hostOps0 _ (Proc.devRef .tc main_v1) = _
  refine ⟨?_, ?_, ?_⟩ <;> after_results <;> rfl

/-- What the body stores at a row and a column of the block. -/
theorem pay_at (x : Vec Ideal S8x2048 .f32) (w : Vec Ideal S1x2048x512 .f32) (b : Vec Ideal S1x1x512 .f32) (a : Fin 8) (f : Fin 512) :
    k0_pay1 (F := Ideal) x w b (ix3 0 a f)
      = (∑ k : Fin 2048, silu (x (ix2 a k)) * w (ix3 0 k f)) + (∑ k : Fin 2048, (silu (x (ix2 a k)) - silu (x (ix2 a k))) * w (ix3 0 k f)) + b (ix3 0 0 f) := by
  pointwise [k0_pay1, silu]

/-- Where the tile's blocks hold the padded rows, a sublayer's weight and its bias, the body stores what the reference has there. -/
theorem point (x : Vec Ideal S8x2048 .f32) (w : Vec Ideal S1x2048x512 .f32) (b : Vec Ideal S1x1x512 .f32)
    (C : FVec Ideal S4x2048 .f32) (W : FVec Ideal S2x3x2048x6144 .f32) (B : FVec Ideal S2x3x6144 .f32) (hC : Cert.Soft.Reals C)
    (a : Fin 8) (f : Fin 512) (s : Fin 6) (g : Fin 6144)
    (hx : ∀ k, x (ix2 a k) = padded C a k) (hw : ∀ k, w (ix3 0 k f) = weight W s k g) (hb : b (ix3 0 0 f) = bias B s g) :
    k0_pay1 (F := Ideal) x w b (ix3 0 a f) = Cert.Reference14Ideal.In.mods C W B (ix3 s a g) := by
  rw [pay_at, Cert.Reference14Ideal.In.mods_at, hb]
  have e : ∑ k : Fin 2048, (silu (x (ix2 a k)) - silu (x (ix2 a k))) * w (ix3 0 k f) = 0 :=
    Finset.sum_eq_zero fun k _ => by rw [hx, silu_sub _ (padded_real C hC a k), zero_mul]
  rw [e, add_zero]
  exact congrArg (· + bias B s g) (Finset.sum_congr rfl fun k _ => by rw [hx, hw])

/-- The array after the run is the reference's, if the conditioning rows are real. -/
theorem final (c : Dev nD) (h : Cert.Soft.Reals (m ((c : Thread nD τ).loc main_arg0) : FVec Ideal S4x2048 .f32)) : (dats m 0 c).arrAt 3 (cfgs 0).N
    = Cert.Reference14Ideal.In.mods (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨e0, e1, e2, e⟩ := idx t
  obtain ⟨v0, v1, v2⟩ := host m c
  have hy : (ix3 (0 : Fin 1) (y 1) (y 2) : S1x8x512.Idx) = y := by
    rw [ValueIdx.eq_ix3 y]
    exact congrArg (fun z => ix3 z (y 1) (y 2)) (Subsingleton.elim _ _)
  have ht : t.val < 72 := t.isLt
  have b2 : (y 2).val < 512 := (y 2).isLt
  have h0 : ∀ k, iblk m c 0 t (ix2 (y 1) k) = padded (m ((c : Thread nD τ).loc main_arg0)) (y 1) k := fun k =>
    (congrFun v0 _).trans ((congrArg (rows _) (by blk_ext [e0])).trans (rows_at _ (y 1) k))
  have h1 : ∀ k, iblk m c 1 t (ix3 0 k (y 2)) = weight (m ((c : Thread nD τ).loc main_arg1)) ⟨t.val / 12, by omega⟩ k ⟨t.val % 12 * 512 + (y 2).val, by omega⟩ := fun k =>
    (congrFun v1 _).trans ((congrArg (weights _) (by blk_ext [e1])).trans (weights_at _ _ k _))
  have h2 : iblk m c 2 t (ix3 0 0 (y 2)) = bias (m ((c : Thread nD τ).loc main_arg2)) ⟨t.val / 12, by omega⟩ ⟨t.val % 12 * 512 + (y 2).val, by omega⟩ :=
    (congrFun v2 _).trans ((congrArg (biases _) (by blk_ext [e2])).trans (biases_at _ _ _))
  exact (congrArg _ hy.symm).trans ((point _ _ _ _ _ _ h (y 1) (y 2) _ _ h0 h1 h2).trans (congrArg (Cert.Reference14Ideal.In.mods _ _ _) (by blk_ext [e])))

end Cert.Kernel14Ideal.In

end
-- ==== Proof.lean ====
/- The claims of this certificate, put together: the kernel, its idealization and the reference run and keep their
   arguments, the idealization is the sanctioned one, and kernel and reference end with equal results over the
   extended reals (the attention when every argument is a real number, the modulation when the conditioning rows are). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Pre_finite_c
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Attn.Final
public import proofs.«01_k».proof.Proof.Attn.Ref
public import proofs.«01_k».proof.Proof.Attn.Finite
public import proofs.«01_k».proof.Proof.Ffn.Up
public import proofs.«01_k».proof.Proof.Ffn.Down
public import proofs.«01_k».proof.Proof.Ffn.Merge
public import proofs.«01_k».proof.Proof.Ffn.Last
public import proofs.«01_k».proof.Proof.Ffn.Mix
public import proofs.«01_k».proof.Proof.In.Rwkv
public import proofs.«01_k».proof.Proof.In.Gla
public import proofs.«01_k».proof.Proof.In.Nsa
public import proofs.«01_k».proof.Proof.In.Query
public import proofs.«01_k».proof.Proof.In.Latent
public import proofs.«01_k».proof.Proof.In.Keys
public import proofs.«01_k».proof.Proof.In.First
public import proofs.«01_k».proof.Proof.In.Modulation
public import Idealize.ShloMosaic.Lib.Claim
public import Idealize.ShloMosaic.Adequacy
public import Idealize.ShloMosaic.Init

@[expose] public section

noncomputable section

namespace Cert.Proof

open Idealize.ShloMosaic Idealize.SL.Sem

/-- The kernel runs, keeps its arguments and leaves every semaphore at zero. -/
theorem frame_kernel : Cert.quiescent_Kernel := fun m g _ => Cert.Kernel.Gen.frame m g

/-- So does its idealization. -/
theorem frame_ideal : Cert.quiescent_KernelIdeal := fun m g _ => Cert.KernelIdeal.Gen.frame m g

/-- So does the reference, which has no semaphores. -/
theorem frame_reference : Cert.quiescent_ReferenceIdeal := fun m g _ =>
  (θ_run _ _ _).mono (fun r h => ⟨fun c => (h c).2, sem_eq_zero_of_no_sems rfl _⟩) (Cert.ReferenceIdeal.Value.run m g)

/-- The mask's literal stands for minus infinity. -/
theorem preserves : Cert.preserves_Kernel_KernelIdeal :=
  IdealRules.named_const.statement Cert.KernelIdeal.κ "mask" .f32 0xF149F2CA#32 ⊥ rfl

/-- For real arguments the kernel and the reference end with equal results. -/
theorem algebraic : Cert.algebraic_KernelIdeal_ReferenceIdeal_pre_finite := by
  pair_intro
  · run_from Cert.KernelIdeal.Value.run_blocks m g
  · run_from Cert.ReferenceIdeal.Value.run m' g'
    obtain ⟨a0, a1, a2⟩ := hagree c
    obtain ⟨h0, h1, h2⟩ := Cert.Pre_finite.reals _ _ _ (hpre c)
    exact (Cert.KernelIdeal.Attn.final m c _ _ _ rfl rfl rfl h0 h1 h2 _ (fun b h i d r =>
      Cert.ReferenceIdeal.Attn.ref_at m' c _ _ _ a0 a1 a2 h0 h1 h2 b h i d r)).symm

/-- The program of the first feed-forward call runs, keeps its arguments and leaves every semaphore at zero. -/
theorem frame_kernel2 : Cert.quiescent_Kernel2 := fun m g _ => Cert.Kernel2.Gen.frame m g

/-- So does its idealization. -/
theorem frame_ideal2 : Cert.quiescent_Kernel2Ideal := fun m g _ => Cert.Kernel2Ideal.Gen.frame m g

/-- So does its reference. -/
theorem frame_reference2 : Cert.quiescent_Reference2Ideal := fun m g _ =>
  (θ_run _ _ _).mono (fun r h => ⟨fun c => (h c).2, sem_eq_zero_of_no_sems rfl _⟩) (Cert.Reference2Ideal.Value.run m g)

/-- The program of the first feed-forward call and its reference end with equal results. -/
theorem algebraic2 : Cert.algebraic_Kernel2Ideal_Reference2Ideal := by
  pair_intro
  · run_from Cert.Kernel2Ideal.Value.run_blocks m g
  · run_from Cert.Reference2Ideal.Value.run m' g'
    exact (Cert.Kernel2Ideal.Up.final m c).symm

/-- The program of the second feed-forward call between two sublayers runs, keeps its arguments and leaves every semaphore at zero. -/
theorem frame_kernel3 : Cert.quiescent_Kernel3 := fun m g _ => Cert.Kernel3.Gen.frame m g

/-- So does its idealization. -/
theorem frame_ideal3 : Cert.quiescent_Kernel3Ideal := fun m g _ => Cert.Kernel3Ideal.Gen.frame m g

/-- So does its reference. -/
theorem frame_reference3 : Cert.quiescent_Reference3Ideal := fun m g _ =>
  (θ_run _ _ _).mono (fun r h => ⟨fun c => (h c).2.2, sem_eq_zero_of_no_sems rfl _⟩) (Cert.Reference3Ideal.Value.run m g)

/-- The program of the second feed-forward call between two sublayers and its reference end with equal results. -/
theorem algebraic3 : Cert.algebraic_Kernel3Ideal_Reference3Ideal := by
  pair_intro
  · run_from Cert.Kernel3Ideal.Value.run_blocks m g
  · run_from Cert.Reference3Ideal.Value.run m' g'
    · exact (Cert.Kernel3Ideal.Down.final_sum m c).symm
    · obtain ⟨a0, a1, a2, a3, a4, a5, a6, a7⟩ := hagree c
      unfold Cert.Reference3Ideal.Value.res_main_v40
      rw [a0, a1, a2, a3, a4, a5, a6, a7]
      exact (Cert.Kernel3Ideal.Down.final_next m c).symm

/-- The program of the merge of the mixers runs, keeps its arguments and leaves every semaphore at zero. -/
theorem frame_kernel4 : Cert.quiescent_Kernel4 := fun m g _ => Cert.Kernel4.Gen.frame m g

/-- So does its idealization. -/
theorem frame_ideal4 : Cert.quiescent_Kernel4Ideal := fun m g _ => Cert.Kernel4Ideal.Gen.frame m g

/-- So does its reference. -/
theorem frame_reference4 : Cert.quiescent_Reference4Ideal := fun m g _ =>
  (θ_run _ _ _).mono (fun r h => ⟨fun c => (h c).2, sem_eq_zero_of_no_sems rfl _⟩) (Cert.Reference4Ideal.Value.run m g)

/-- The program of the merge of the mixers and its reference end with equal results. -/
theorem algebraic4 : Cert.algebraic_Kernel4Ideal_Reference4Ideal := by
  pair_intro
  · run_from Cert.Kernel4Ideal.Value.run_blocks m g
  · run_from Cert.Reference4Ideal.Value.run m' g'
    exact (Cert.Kernel4Ideal.Merge.final m c).symm

/-- The program of the layer's last call runs, keeps its arguments and leaves every semaphore at zero. -/
theorem frame_kernel5 : Cert.quiescent_Kernel5 := fun m g _ => Cert.Kernel5.Gen.frame m g

/-- So does its idealization. -/
theorem frame_ideal5 : Cert.quiescent_Kernel5Ideal := fun m g _ => Cert.Kernel5Ideal.Gen.frame m g

/-- So does its reference. -/
theorem frame_reference5 : Cert.quiescent_Reference5Ideal := fun m g _ =>
  (θ_run _ _ _).mono (fun r h => ⟨fun c => (h c).2, sem_eq_zero_of_no_sems rfl _⟩) (Cert.Reference5Ideal.Value.run m g)

/-- The program of the layer's last call and its reference end with equal results. -/
theorem algebraic5 : Cert.algebraic_Kernel5Ideal_Reference5Ideal := by
  pair_intro
  · run_from Cert.Kernel5Ideal.Value.run_blocks m g
  · run_from Cert.Reference5Ideal.Value.run m' g'
    exact (Cert.Kernel5Ideal.Last.final m c).symm

/-- The program of the call after the mixers runs, keeps its arguments and leaves every semaphore at zero. -/
theorem frame_kernel6 : Cert.quiescent_Kernel6 := fun m g _ => Cert.Kernel6.Gen.frame m g

/-- So does its idealization. -/
theorem frame_ideal6 : Cert.quiescent_Kernel6Ideal := fun m g _ => Cert.Kernel6Ideal.Gen.frame m g

/-- So does its reference. -/
theorem frame_reference6 : Cert.quiescent_Reference6Ideal := fun m g _ =>
  (θ_run _ _ _).mono (fun r h => ⟨fun c => (h c).2.2, sem_eq_zero_of_no_sems rfl _⟩) (Cert.Reference6Ideal.Value.run m g)

/-- The program of the call after the mixers and its reference end with equal results. -/
theorem algebraic6 : Cert.algebraic_Kernel6Ideal_Reference6Ideal := by
  pair_intro
  · run_from Cert.Kernel6Ideal.Value.run_blocks m g
  · run_from Cert.Reference6Ideal.Value.run m' g'
    · exact (Cert.Kernel6Ideal.Mix.final_sum m c).symm
    · obtain ⟨a0, a1, a2, a3, a4, a5, a6, a7⟩ := hagree c
      unfold Cert.Reference6Ideal.Value.res_main_v40
      rw [a0, a1, a2, a3, a4, a5, a6, a7]
      exact (Cert.Kernel6Ideal.Mix.final_next m c).symm

/-- The program of RWKV-7's input projection runs, keeps its arguments and leaves every semaphore at zero. -/
theorem frame_kernel7 : Cert.quiescent_Kernel7 := fun m g _ => Cert.Kernel7.Gen.frame m g

/-- So does its idealization. -/
theorem frame_ideal7 : Cert.quiescent_Kernel7Ideal := fun m g _ => Cert.Kernel7Ideal.Gen.frame m g

/-- So does its reference. -/
theorem frame_reference7 : Cert.quiescent_Reference7Ideal := fun m g _ =>
  (θ_run _ _ _).mono (fun r h => ⟨fun c => (h c).2, sem_eq_zero_of_no_sems rfl _⟩) (Cert.Reference7Ideal.Value.run m g)

/-- The program of RWKV-7's input projection and its reference end with equal results. -/
theorem algebraic7 : Cert.algebraic_Kernel7Ideal_Reference7Ideal := by
  pair_intro
  · run_from Cert.Kernel7Ideal.Value.run_blocks m g
  · run_from Cert.Reference7Ideal.Value.run m' g'
    exact (Cert.Kernel7Ideal.In.final m c).symm

/-- The program of GLA's input projection runs, keeps its arguments and leaves every semaphore at zero. -/
theorem frame_kernel8 : Cert.quiescent_Kernel8 := fun m g _ => Cert.Kernel8.Gen.frame m g

/-- So does its idealization. -/
theorem frame_ideal8 : Cert.quiescent_Kernel8Ideal := fun m g _ => Cert.Kernel8Ideal.Gen.frame m g

/-- So does its reference. -/
theorem frame_reference8 : Cert.quiescent_Reference8Ideal := fun m g _ =>
  (θ_run _ _ _).mono (fun r h => ⟨fun c => (h c).2, sem_eq_zero_of_no_sems rfl _⟩) (Cert.Reference8Ideal.Value.run m g)

/-- The program of GLA's input projection and its reference end with equal results. -/
theorem algebraic8 : Cert.algebraic_Kernel8Ideal_Reference8Ideal := by
  pair_intro
  · run_from Cert.Kernel8Ideal.Value.run_blocks m g
  · run_from Cert.Reference8Ideal.Value.run m' g'
    exact (Cert.Kernel8Ideal.In.final m c).symm

/-- The program of NSA's input projection of values and gates runs, keeps its arguments and leaves every semaphore at zero. -/
theorem frame_kernel9 : Cert.quiescent_Kernel9 := fun m g _ => Cert.Kernel9.Gen.frame m g

/-- So does its idealization. -/
theorem frame_ideal9 : Cert.quiescent_Kernel9Ideal := fun m g _ => Cert.Kernel9Ideal.Gen.frame m g

/-- So does its reference. -/
theorem frame_reference9 : Cert.quiescent_Reference9Ideal := fun m g _ =>
  (θ_run _ _ _).mono (fun r h => ⟨fun c => (h c).2, sem_eq_zero_of_no_sems rfl _⟩) (Cert.Reference9Ideal.Value.run m g)

/-- The program of NSA's input projection of values and gates and its reference end with equal results. -/
theorem algebraic9 : Cert.algebraic_Kernel9Ideal_Reference9Ideal := by
  pair_intro
  · run_from Cert.Kernel9Ideal.Value.run_blocks m g
  · run_from Cert.Reference9Ideal.Value.run m' g'
    exact (Cert.Kernel9Ideal.In.final m c).symm

/-- The program of the input projection of the latent attention's queries runs, keeps its arguments and leaves every semaphore at zero. -/
theorem frame_kernel10 : Cert.quiescent_Kernel10 := fun m g _ => Cert.Kernel10.Gen.frame m g

/-- So does its idealization. -/
theorem frame_ideal10 : Cert.quiescent_Kernel10Ideal := fun m g _ => Cert.Kernel10Ideal.Gen.frame m g

/-- So does its reference. -/
theorem frame_reference10 : Cert.quiescent_Reference10Ideal := fun m g _ =>
  (θ_run _ _ _).mono (fun r h => ⟨fun c => (h c).2, sem_eq_zero_of_no_sems rfl _⟩) (Cert.Reference10Ideal.Value.run m g)

/-- The program of the input projection of the latent attention's queries and its reference end with equal results. -/
theorem algebraic10 : Cert.algebraic_Kernel10Ideal_Reference10Ideal := by
  pair_intro
  · run_from Cert.Kernel10Ideal.Value.run_blocks m g
  · run_from Cert.Reference10Ideal.Value.run m' g'
    exact (Cert.Kernel10Ideal.In.final m c).symm

/-- The program of the input projection of the latent attention's keys and values runs, keeps its arguments and leaves every semaphore at zero. -/
theorem frame_kernel11 : Cert.quiescent_Kernel11 := fun m g _ => Cert.Kernel11.Gen.frame m g

/-- So does its idealization. -/
theorem frame_ideal11 : Cert.quiescent_Kernel11Ideal := fun m g _ => Cert.Kernel11Ideal.Gen.frame m g

/-- So does its reference. -/
theorem frame_reference11 : Cert.quiescent_Reference11Ideal := fun m g _ =>
  (θ_run _ _ _).mono (fun r h => ⟨fun c => (h c).2, sem_eq_zero_of_no_sems rfl _⟩) (Cert.Reference11Ideal.Value.run m g)

/-- The program of the input projection of the latent attention's keys and values and its reference end with equal results. -/
theorem algebraic11 : Cert.algebraic_Kernel11Ideal_Reference11Ideal := by
  pair_intro
  · run_from Cert.Kernel11Ideal.Value.run_blocks m g
  · run_from Cert.Reference11Ideal.Value.run m' g'
    exact (Cert.Kernel11Ideal.In.final m c).symm

/-- The program of the latent attention's projection to keys and values runs, keeps its arguments and leaves every semaphore at zero. -/
theorem frame_kernel12 : Cert.quiescent_Kernel12 := fun m g _ => Cert.Kernel12.Gen.frame m g

/-- So does its idealization. -/
theorem frame_ideal12 : Cert.quiescent_Kernel12Ideal := fun m g _ => Cert.Kernel12Ideal.Gen.frame m g

/-- So does its reference. -/
theorem frame_reference12 : Cert.quiescent_Reference12Ideal := fun m g _ =>
  (θ_run _ _ _).mono (fun r h => ⟨fun c => (h c).2, sem_eq_zero_of_no_sems rfl _⟩) (Cert.Reference12Ideal.Value.run m g)

/-- The program of the latent attention's projection to keys and values and its reference end with equal results. -/
theorem algebraic12 : Cert.algebraic_Kernel12Ideal_Reference12Ideal := by
  pair_intro
  · run_from Cert.Kernel12Ideal.Value.run_blocks m g
  · run_from Cert.Reference12Ideal.Value.run m' g'
    exact (Cert.Kernel12Ideal.In.final m c).symm

/-- The program of the first norm runs, keeps its arguments and leaves every semaphore at zero. -/
theorem frame_kernel13 : Cert.quiescent_Kernel13 := fun m g _ => Cert.Kernel13.Gen.frame m g

/-- So does its idealization. -/
theorem frame_ideal13 : Cert.quiescent_Kernel13Ideal := fun m g _ => Cert.Kernel13Ideal.Gen.frame m g

/-- So does its reference. -/
theorem frame_reference13 : Cert.quiescent_Reference13Ideal := fun m g _ =>
  (θ_run _ _ _).mono (fun r h => ⟨fun c => (h c).2, sem_eq_zero_of_no_sems rfl _⟩) (Cert.Reference13Ideal.Value.run m g)

/-- The program of the first norm and its reference end with equal results. -/
theorem algebraic13 : Cert.algebraic_Kernel13Ideal_Reference13Ideal := by
  pair_intro
  · run_from Cert.Kernel13Ideal.Value.run_blocks m g
  · run_from Cert.Reference13Ideal.Value.run m' g'
    exact (Cert.Kernel13Ideal.First.final m c).symm

/-- The program of the modulation runs, keeps its arguments and leaves every semaphore at zero. -/
theorem frame_kernel14 : Cert.quiescent_Kernel14 := fun m g _ => Cert.Kernel14.Gen.frame m g

/-- So does its idealization. -/
theorem frame_ideal14 : Cert.quiescent_Kernel14Ideal := fun m g _ => Cert.Kernel14Ideal.Gen.frame m g

/-- So does its reference. -/
theorem frame_reference14 : Cert.quiescent_Reference14Ideal := fun m g _ =>
  (θ_run _ _ _).mono (fun r h => ⟨fun c => (h c).2, sem_eq_zero_of_no_sems rfl _⟩) (Cert.Reference14Ideal.Value.run m g)

/-- The program of the modulation and its reference end with equal results if the conditioning rows are real. -/
theorem algebraic14 : Cert.algebraic_Kernel14Ideal_Reference14Ideal_pre_finite_c := by
  pair_intro
  · run_from Cert.Kernel14Ideal.Value.run_blocks m g
  · run_from Cert.Reference14Ideal.Value.run m' g'
    exact (Cert.Kernel14Ideal.In.final m c (Cert.Pre_finite_c.reals _ _ _ (hpre c))).symm

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Pre_finite.facts, Cert.Pre_finite_c.facts,
    frame_kernel, frame_ideal, fun m g _ => frame_ideal m g trivial, frame_reference, fun m g _ => frame_reference m g trivial,
    frame_kernel2, frame_ideal2, frame_reference2, frame_kernel3, frame_ideal3, frame_reference3, frame_kernel4, frame_ideal4, frame_reference4, frame_kernel5, frame_ideal5, frame_reference5, frame_kernel6, frame_ideal6, frame_reference6, frame_kernel7, frame_ideal7, frame_reference7, frame_kernel8, frame_ideal8, frame_reference8, frame_kernel9, frame_ideal9, frame_reference9, frame_kernel10, frame_ideal10, frame_reference10, frame_kernel11, frame_ideal11, frame_reference11, frame_kernel12, frame_ideal12, frame_reference12, frame_kernel13, frame_ideal13, frame_reference13, frame_kernel14, frame_ideal14, fun m g _ => frame_ideal14 m g trivial, frame_reference14, fun m g _ => frame_reference14 m g trivial,
    preserves, algebraic,
    trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14⟩

end Cert.Proof

end
